-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32 : Shape := ⟨1, ![32]⟩
abbrev S_ : Shape := ⟨0, ![]⟩
abbrev S1 : Shape := ⟨1, ![1]⟩

abbrev nBuf : Table → Nat
  | .hbm => 2
  | .local .scScalar .smem => 2
  | _ => 0

abbrev bufTy : (tb : Table) → Fin (nBuf tb) → BufTy
  | .hbm, ⟨0, _⟩ => ⟨S32, .f32⟩
  | .hbm, ⟨1, _⟩ => ⟨S32, .i32⟩
  | .local .scScalar .smem, ⟨0, _⟩ => ⟨S32, .f32⟩
  | .local .scScalar .smem, ⟨1, _⟩ => ⟨S32, .i32⟩
  | _, _ => ⟨S32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32 : Shape := ⟨1, ![32]⟩
abbrev S16x32 : Shape := ⟨2, ![16, 32]⟩
abbrev S_ : Shape := ⟨0, ![]⟩
abbrev S32x16 : Shape := ⟨2, ![32, 16]⟩
abbrev S1x32 : Shape := ⟨2, ![1, 32]⟩
abbrev S32x1 : Shape := ⟨2, ![32, 1]⟩
abbrev S16 : Shape := ⟨1, ![16]⟩
abbrev S8 : Shape := ⟨1, ![8]⟩
abbrev S4 : Shape := ⟨1, ![4]⟩
abbrev S2 : Shape := ⟨1, ![2]⟩
abbrev S1 : Shape := ⟨1, ![1]⟩
abbrev S16x1 : Shape := ⟨2, ![16, 1]⟩
abbrev S1x1 : Shape := ⟨2, ![1, 1]⟩
abbrev S8x32 : Shape := ⟨2, ![8, 32]⟩
abbrev S4x32 : Shape := ⟨2, ![4, 32]⟩
abbrev S2x32 : Shape := ⟨2, ![2, 32]⟩

abbrev nBuf : Space → Nat
  | .hbm => 335
  | .vmem => 0
  | .smem => 0
  | _ => 0

abbrev hbmTy0_0 (i : Nat) : BufTy := match i % 128 with
  | 0 => ⟨S32, .f32⟩
  | 1 => ⟨S16x32, .i32⟩
  | 2 => ⟨S_, .i32⟩
  | 3 => ⟨S16x32, .i32⟩
  | 4 => ⟨S16x32, .i1⟩
  | 5 => ⟨S_, .f32⟩
  | 6 => ⟨S32x16, .f32⟩
  | 7 => ⟨S_, .f32⟩
  | 8 => ⟨S16x32, .f32⟩
  | 9 => ⟨S_, .i32⟩
  | 10 => ⟨S_, .i32⟩
  | 11 => ⟨S16x32, .i1⟩
  | 12 => ⟨S32, .f32⟩
  | 13 => ⟨S_, .i32⟩
  | 14 => ⟨S_, .i32⟩
  | 15 => ⟨S32x16, .f32⟩
  | 16 => ⟨S16x32, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i1⟩
  | 45 => ⟨S_, .i1⟩
  | 46 => ⟨S_, .i1⟩
  | 47 => ⟨S_, .i1⟩
  | 48 => ⟨S_, .i1⟩
  | 49 => ⟨S_, .i1⟩
  | 50 => ⟨S_, .i1⟩
  | 51 => ⟨S_, .i1⟩
  | 52 => ⟨S_, .i1⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i1⟩
  | 67 => ⟨S_, .i32⟩
  | 68 => ⟨S_, .i1⟩
  | 69 => ⟨S_, .i1⟩
  | 70 => ⟨S_, .i1⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i1⟩
  | 83 => ⟨S_, .i1⟩
  | 84 => ⟨S_, .i1⟩
  | 85 => ⟨S_, .i1⟩
  | 86 => ⟨S_, .i1⟩
  | 87 => ⟨S_, .i1⟩
  | 88 => ⟨S_, .i1⟩
  | 89 => ⟨S_, .i1⟩
  | 90 => ⟨S_, .i1⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i1⟩
  | 105 => ⟨S_, .i32⟩
  | 106 => ⟨S_, .i1⟩
  | 107 => ⟨S_, .i1⟩
  | 108 => ⟨S_, .i1⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x32, .i1⟩
  | 126 => ⟨S32, .i1⟩
  | 127 => ⟨S_, .i32⟩
  | _ => ⟨S32, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S32x1, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S_, .f32⟩
  | 21 => ⟨S32, .f32⟩
  | 22 => ⟨S32, .f32⟩
  | 23 => ⟨S16, .f32⟩
  | 24 => ⟨S16, .f32⟩
  | 25 => ⟨S16, .f32⟩
  | 26 => ⟨S8, .f32⟩
  | 27 => ⟨S8, .f32⟩
  | 28 => ⟨S8, .f32⟩
  | 29 => ⟨S4, .f32⟩
  | 30 => ⟨S4, .f32⟩
  | 31 => ⟨S4, .f32⟩
  | 32 => ⟨S2, .f32⟩
  | 33 => ⟨S2, .f32⟩
  | 34 => ⟨S2, .f32⟩
  | 35 => ⟨S1, .f32⟩
  | 36 => ⟨S1, .f32⟩
  | 37 => ⟨S1, .f32⟩
  | 38 => ⟨S_, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1, .f32⟩
  | 46 => ⟨S_, .f32⟩
  | 47 => ⟨S_, .f32⟩
  | 48 => ⟨S_, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1, .i32⟩
  | 62 => ⟨S1, .i32⟩
  | 63 => ⟨S2, .i32⟩
  | 64 => ⟨S32x16, .f32⟩
  | 65 => ⟨S32x16, .f32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i1⟩
  | 74 => ⟨S_, .i1⟩
  | 75 => ⟨S_, .i1⟩
  | 76 => ⟨S_, .i1⟩
  | 77 => ⟨S_, .i1⟩
  | 78 => ⟨S_, .i1⟩
  | 79 => ⟨S_, .i1⟩
  | 80 => ⟨S_, .i1⟩
  | 81 => ⟨S_, .i1⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i1⟩
  | 96 => ⟨S_, .i32⟩
  | 97 => ⟨S_, .i1⟩
  | 98 => ⟨S_, .i1⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S16x1, .i1⟩
  | 117 => ⟨S16, .i1⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S32, .f32⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S16x1, .f32⟩
  | 5 => ⟨S16, .f32⟩
  | 6 => ⟨S_, .f32⟩
  | 7 => ⟨S_, .f32⟩
  | 8 => ⟨S16, .f32⟩
  | 9 => ⟨S16, .f32⟩
  | 10 => ⟨S_, .f32⟩
  | 11 => ⟨S_, .f32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S1x1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1, .i32⟩
  | 46 => ⟨S1, .i32⟩
  | 47 => ⟨S2, .i32⟩
  | 48 => ⟨S16x32, .f32⟩
  | 49 => ⟨S16x32, .f32⟩
  | 50 => ⟨S_, .i32⟩
  | 51 => ⟨S_, .i32⟩
  | 52 => ⟨S32, .f32⟩
  | 53 => ⟨S_, .f32⟩
  | 54 => ⟨S16x32, .f32⟩
  | 55 => ⟨S16x32, .f32⟩
  | 56 => ⟨S16x32, .f32⟩
  | 57 => ⟨S8x32, .f32⟩
  | 58 => ⟨S8x32, .f32⟩
  | 59 => ⟨S8x32, .f32⟩
  | 60 => ⟨S4x32, .f32⟩
  | 61 => ⟨S4x32, .f32⟩
  | 62 => ⟨S4x32, .f32⟩
  | 63 => ⟨S2x32, .f32⟩
  | 64 => ⟨S2x32, .f32⟩
  | 65 => ⟨S2x32, .f32⟩
  | 66 => ⟨S1x32, .f32⟩
  | 67 => ⟨S1x32, .f32⟩
  | 68 => ⟨S1x32, .f32⟩
  | 69 => ⟨S32, .f32⟩
  | 70 => ⟨S32, .f32⟩
  | 71 => ⟨S_, .f32⟩
  | 72 => ⟨S32, .f32⟩
  | 73 => ⟨S32, .i1⟩
  | 74 => ⟨S_, .i32⟩
  | 75 => ⟨S_, .i32⟩
  | 76 => ⟨S32, .i32⟩
  | 77 => ⟨S32, .i32⟩
  | 78 => ⟨S32, .i32⟩
  | _ => ⟨S32, .f32⟩

abbrev hbmTy (i : Nat) : BufTy := match i / 128 with
  | 0 => hbmTy0_0 i
  | 1 => hbmTy0_1 i
  | 2 => hbmTy0_2 i
  | _ => ⟨S32, .f32⟩

abbrev bufTy : (tb : Table) → Fin (tcTables nBuf tb) → BufTy
  | .hbm, ⟨i, _⟩ => hbmTy i
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_c_2 : Ref sig .tc := ⟨.hbm, 9, rfl⟩
abbrev main_c_3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_13 : Ref sig .tc := ⟨.hbm, 17, rfl⟩
abbrev main_while0c_v26 : Ref sig .tc := ⟨.hbm, 18, rfl⟩
abbrev main_while0b_c_13 : Ref sig .tc := ⟨.hbm, 19, rfl⟩
abbrev main_while0b_v26 : Ref sig .tc := ⟨.hbm, 20, rfl⟩
abbrev main_while0b_c_14 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_call0_c_0 : Ref sig .tc := ⟨.hbm, 24, rfl⟩
abbrev main_while0b_call0_v1 : Ref sig .tc := ⟨.hbm, 25, rfl⟩
abbrev main_while0b_call0_v2 : Ref sig .tc := ⟨.hbm, 26, rfl⟩
abbrev main_while0b_call0_c_1 : Ref sig .tc := ⟨.hbm, 27, rfl⟩
abbrev main_while0b_call0_v3 : Ref sig .tc := ⟨.hbm, 28, rfl⟩
abbrev main_while0b_call0_c_2 : Ref sig .tc := ⟨.hbm, 29, rfl⟩
abbrev main_while0b_call0_v4 : Ref sig .tc := ⟨.hbm, 30, rfl⟩
abbrev main_while0b_call0_c_3 : Ref sig .tc := ⟨.hbm, 31, rfl⟩
abbrev main_while0b_call0_v5 : Ref sig .tc := ⟨.hbm, 32, rfl⟩
abbrev main_while0b_call0_v6 : Ref sig .tc := ⟨.hbm, 33, rfl⟩
abbrev main_while0b_call0_v7 : Ref sig .tc := ⟨.hbm, 34, rfl⟩
abbrev main_while0b_call0_v8 : Ref sig .tc := ⟨.hbm, 35, rfl⟩
abbrev main_while0b_v27 : Ref sig .tc := ⟨.hbm, 36, rfl⟩
abbrev main_while0b_c_15 : Ref sig .tc := ⟨.hbm, 37, rfl⟩
abbrev main_while0b_call1_v0 : Ref sig .tc := ⟨.hbm, 38, rfl⟩
abbrev main_while0b_call1_v1 : Ref sig .tc := ⟨.hbm, 39, rfl⟩
abbrev main_while0b_call1_v2 : Ref sig .tc := ⟨.hbm, 40, rfl⟩
abbrev main_while0b_call1_v3 : Ref sig .tc := ⟨.hbm, 41, rfl⟩
abbrev main_while0b_call1_v4 : Ref sig .tc := ⟨.hbm, 42, rfl⟩
abbrev main_while0b_call1_c : Ref sig .tc := ⟨.hbm, 43, rfl⟩
abbrev main_while0b_call1_v5 : Ref sig .tc := ⟨.hbm, 44, rfl⟩
abbrev main_while0b_call1_c_0 : Ref sig .tc := ⟨.hbm, 45, rfl⟩
abbrev main_while0b_call1_v6 : Ref sig .tc := ⟨.hbm, 46, rfl⟩
abbrev main_while0b_call1_v7 : Ref sig .tc := ⟨.hbm, 47, rfl⟩
abbrev main_while0b_call1_v8 : Ref sig .tc := ⟨.hbm, 48, rfl⟩
abbrev main_while0b_call1_c_1 : Ref sig .tc := ⟨.hbm, 49, rfl⟩
abbrev main_while0b_call1_v9 : Ref sig .tc := ⟨.hbm, 50, rfl⟩
abbrev main_while0b_call1_v10 : Ref sig .tc := ⟨.hbm, 51, rfl⟩
abbrev main_while0b_call1_v11 : Ref sig .tc := ⟨.hbm, 52, rfl⟩
abbrev main_while0b_call1_v12 : Ref sig .tc := ⟨.hbm, 53, rfl⟩
abbrev main_while0b_call1_c_2 : Ref sig .tc := ⟨.hbm, 54, rfl⟩
abbrev main_while0b_call1_v13 : Ref sig .tc := ⟨.hbm, 55, rfl⟩
abbrev main_while0b_v28 : Ref sig .tc := ⟨.hbm, 56, rfl⟩
abbrev main_while0b_c_16 : Ref sig .tc := ⟨.hbm, 57, rfl⟩
abbrev main_while0b_call2_c : Ref sig .tc := ⟨.hbm, 58, rfl⟩
abbrev main_while0b_call2_v0 : Ref sig .tc := ⟨.hbm, 59, rfl⟩
abbrev main_while0b_call2_c_0 : Ref sig .tc := ⟨.hbm, 60, rfl⟩
abbrev main_while0b_call2_v1 : Ref sig .tc := ⟨.hbm, 61, rfl⟩
abbrev main_while0b_call2_v2 : Ref sig .tc := ⟨.hbm, 62, rfl⟩
abbrev main_while0b_call2_c_1 : Ref sig .tc := ⟨.hbm, 63, rfl⟩
abbrev main_while0b_call2_v3 : Ref sig .tc := ⟨.hbm, 64, rfl⟩
abbrev main_while0b_call2_c_2 : Ref sig .tc := ⟨.hbm, 65, rfl⟩
abbrev main_while0b_call2_v4 : Ref sig .tc := ⟨.hbm, 66, rfl⟩
abbrev main_while0b_call2_c_3 : Ref sig .tc := ⟨.hbm, 67, rfl⟩
abbrev main_while0b_call2_v5 : Ref sig .tc := ⟨.hbm, 68, rfl⟩
abbrev main_while0b_call2_v6 : Ref sig .tc := ⟨.hbm, 69, rfl⟩
abbrev main_while0b_call2_v7 : Ref sig .tc := ⟨.hbm, 70, rfl⟩
abbrev main_while0b_call2_v8 : Ref sig .tc := ⟨.hbm, 71, rfl⟩
abbrev main_while0b_v29 : Ref sig .tc := ⟨.hbm, 72, rfl⟩
abbrev main_while0b_c_17 : Ref sig .tc := ⟨.hbm, 73, rfl⟩
abbrev main_while0b_v30 : Ref sig .tc := ⟨.hbm, 74, rfl⟩
abbrev main_while0b_c_18 : Ref sig .tc := ⟨.hbm, 75, rfl⟩
abbrev main_while0b_call3_v0 : Ref sig .tc := ⟨.hbm, 76, rfl⟩
abbrev main_while0b_call3_v1 : Ref sig .tc := ⟨.hbm, 77, rfl⟩
abbrev main_while0b_call3_v2 : Ref sig .tc := ⟨.hbm, 78, rfl⟩
abbrev main_while0b_call3_v3 : Ref sig .tc := ⟨.hbm, 79, rfl⟩
abbrev main_while0b_call3_v4 : Ref sig .tc := ⟨.hbm, 80, rfl⟩
abbrev main_while0b_call3_c : Ref sig .tc := ⟨.hbm, 81, rfl⟩
abbrev main_while0b_call3_v5 : Ref sig .tc := ⟨.hbm, 82, rfl⟩
abbrev main_while0b_call3_c_0 : Ref sig .tc := ⟨.hbm, 83, rfl⟩
abbrev main_while0b_call3_v6 : Ref sig .tc := ⟨.hbm, 84, rfl⟩
abbrev main_while0b_call3_v7 : Ref sig .tc := ⟨.hbm, 85, rfl⟩
abbrev main_while0b_call3_v8 : Ref sig .tc := ⟨.hbm, 86, rfl⟩
abbrev main_while0b_call3_c_1 : Ref sig .tc := ⟨.hbm, 87, rfl⟩
abbrev main_while0b_call3_v9 : Ref sig .tc := ⟨.hbm, 88, rfl⟩
abbrev main_while0b_call3_v10 : Ref sig .tc := ⟨.hbm, 89, rfl⟩
abbrev main_while0b_call3_v11 : Ref sig .tc := ⟨.hbm, 90, rfl⟩
abbrev main_while0b_call3_v12 : Ref sig .tc := ⟨.hbm, 91, rfl⟩
abbrev main_while0b_call3_c_2 : Ref sig .tc := ⟨.hbm, 92, rfl⟩
abbrev main_while0b_call3_v13 : Ref sig .tc := ⟨.hbm, 93, rfl⟩
abbrev main_while0b_v31 : Ref sig .tc := ⟨.hbm, 94, rfl⟩
abbrev main_while0b_c_19 : Ref sig .tc := ⟨.hbm, 95, rfl⟩
abbrev main_while0b_call4_c : Ref sig .tc := ⟨.hbm, 96, rfl⟩
abbrev main_while0b_call4_v0 : Ref sig .tc := ⟨.hbm, 97, rfl⟩
abbrev main_while0b_call4_c_0 : Ref sig .tc := ⟨.hbm, 98, rfl⟩
abbrev main_while0b_call4_v1 : Ref sig .tc := ⟨.hbm, 99, rfl⟩
abbrev main_while0b_call4_v2 : Ref sig .tc := ⟨.hbm, 100, rfl⟩
abbrev main_while0b_call4_c_1 : Ref sig .tc := ⟨.hbm, 101, rfl⟩
abbrev main_while0b_call4_v3 : Ref sig .tc := ⟨.hbm, 102, rfl⟩
abbrev main_while0b_call4_c_2 : Ref sig .tc := ⟨.hbm, 103, rfl⟩
abbrev main_while0b_call4_v4 : Ref sig .tc := ⟨.hbm, 104, rfl⟩
abbrev main_while0b_call4_c_3 : Ref sig .tc := ⟨.hbm, 105, rfl⟩
abbrev main_while0b_call4_v5 : Ref sig .tc := ⟨.hbm, 106, rfl⟩
abbrev main_while0b_call4_v6 : Ref sig .tc := ⟨.hbm, 107, rfl⟩
abbrev main_while0b_call4_v7 : Ref sig .tc := ⟨.hbm, 108, rfl⟩
abbrev main_while0b_call4_v8 : Ref sig .tc := ⟨.hbm, 109, rfl⟩
abbrev main_while0b_v32 : Ref sig .tc := ⟨.hbm, 110, rfl⟩
abbrev main_while0b_v33 : Ref sig .tc := ⟨.hbm, 111, rfl⟩
abbrev main_while0b_c_20 : Ref sig .tc := ⟨.hbm, 112, rfl⟩
abbrev main_while0b_v34 : Ref sig .tc := ⟨.hbm, 113, rfl⟩
abbrev main_while0b_c_21 : Ref sig .tc := ⟨.hbm, 114, rfl⟩
abbrev main_while0b_v35 : Ref sig .tc := ⟨.hbm, 115, rfl⟩
abbrev main_while0b_v36 : Ref sig .tc := ⟨.hbm, 116, rfl⟩
abbrev main_while0b_c_22 : Ref sig .tc := ⟨.hbm, 117, rfl⟩
abbrev main_while0b_c_23 : Ref sig .tc := ⟨.hbm, 118, rfl⟩
abbrev main_while0b_v37 : Ref sig .tc := ⟨.hbm, 119, rfl⟩
abbrev main_while0b_c_24 : Ref sig .tc := ⟨.hbm, 120, rfl⟩
abbrev main_while0b_c_25 : Ref sig .tc := ⟨.hbm, 121, rfl⟩
abbrev main_while0b_v38 : Ref sig .tc := ⟨.hbm, 122, rfl⟩
abbrev main_while0b_c_26 : Ref sig .tc := ⟨.hbm, 123, rfl⟩
abbrev main_while0b_v39 : Ref sig .tc := ⟨.hbm, 124, rfl⟩
abbrev main_while0b_v40 : Ref sig .tc := ⟨.hbm, 125, rfl⟩
abbrev main_while0b_v41 : Ref sig .tc := ⟨.hbm, 126, rfl⟩
abbrev main_while0b_v42 : Ref sig .tc := ⟨.hbm, 127, rfl⟩
abbrev main_while0b_c_27 : Ref sig .tc := ⟨.hbm, 128, rfl⟩
abbrev main_while0b_c_28 : Ref sig .tc := ⟨.hbm, 129, rfl⟩
abbrev main_while0b_v43 : Ref sig .tc := ⟨.hbm, 130, rfl⟩
abbrev main_while0b_c_29 : Ref sig .tc := ⟨.hbm, 131, rfl⟩
abbrev main_while0b_c_30 : Ref sig .tc := ⟨.hbm, 132, rfl⟩
abbrev main_while0b_v44 : Ref sig .tc := ⟨.hbm, 133, rfl⟩
abbrev main_while0b_c_31 : Ref sig .tc := ⟨.hbm, 134, rfl⟩
abbrev main_while0b_v45 : Ref sig .tc := ⟨.hbm, 135, rfl⟩
abbrev main_while0b_c_32 : Ref sig .tc := ⟨.hbm, 136, rfl⟩
abbrev main_while0b_v46 : Ref sig .tc := ⟨.hbm, 137, rfl⟩
abbrev main_while0b_c_33 : Ref sig .tc := ⟨.hbm, 138, rfl⟩
abbrev main_while0b_v47 : Ref sig .tc := ⟨.hbm, 139, rfl⟩
abbrev main_while0b_v48 : Ref sig .tc := ⟨.hbm, 140, rfl⟩
abbrev main_while0b_v49 : Ref sig .tc := ⟨.hbm, 141, rfl⟩
abbrev main_while0b_v50 : Ref sig .tc := ⟨.hbm, 142, rfl⟩
abbrev main_while0b_cst_34 : Ref sig .tc := ⟨.hbm, 143, rfl⟩
abbrev main_while0b_v51 : Ref sig .tc := ⟨.hbm, 144, rfl⟩
abbrev main_while0b_v52 : Ref sig .tc := ⟨.hbm, 145, rfl⟩
abbrev main_while0b_v53 : Ref sig .tc := ⟨.hbm, 146, rfl⟩
abbrev main_while0b_cst_35 : Ref sig .tc := ⟨.hbm, 147, rfl⟩
abbrev main_while0b_call5_v0 : Ref sig .tc := ⟨.hbm, 148, rfl⟩
abbrev main_while0b_call5_v1 : Ref sig .tc := ⟨.hbm, 149, rfl⟩
abbrev main_while0b_v54 : Ref sig .tc := ⟨.hbm, 150, rfl⟩
abbrev main_while0b_v55 : Ref sig .tc := ⟨.hbm, 151, rfl⟩
abbrev main_while0b_v56 : Ref sig .tc := ⟨.hbm, 152, rfl⟩
abbrev main_while0b_v57 : Ref sig .tc := ⟨.hbm, 153, rfl⟩
abbrev main_while0b_v58 : Ref sig .tc := ⟨.hbm, 154, rfl⟩
abbrev main_while0b_v59 : Ref sig .tc := ⟨.hbm, 155, rfl⟩
abbrev main_while0b_v60 : Ref sig .tc := ⟨.hbm, 156, rfl⟩
abbrev main_while0b_v61 : Ref sig .tc := ⟨.hbm, 157, rfl⟩
abbrev main_while0b_v62 : Ref sig .tc := ⟨.hbm, 158, rfl⟩
abbrev main_while0b_v63 : Ref sig .tc := ⟨.hbm, 159, rfl⟩
abbrev main_while0b_v64 : Ref sig .tc := ⟨.hbm, 160, rfl⟩
abbrev main_while0b_v65 : Ref sig .tc := ⟨.hbm, 161, rfl⟩
abbrev main_while0b_v66 : Ref sig .tc := ⟨.hbm, 162, rfl⟩
abbrev main_while0b_v67 : Ref sig .tc := ⟨.hbm, 163, rfl⟩
abbrev main_while0b_v68 : Ref sig .tc := ⟨.hbm, 164, rfl⟩
abbrev main_while0b_v69 : Ref sig .tc := ⟨.hbm, 165, rfl⟩
abbrev main_while0b_v70 : Ref sig .tc := ⟨.hbm, 166, rfl⟩
abbrev main_while0b_c_36 : Ref sig .tc := ⟨.hbm, 167, rfl⟩
abbrev main_while0b_v71 : Ref sig .tc := ⟨.hbm, 168, rfl⟩
abbrev main_while0b_v72 : Ref sig .tc := ⟨.hbm, 169, rfl⟩
abbrev main_while0b_c_37 : Ref sig .tc := ⟨.hbm, 170, rfl⟩
abbrev main_while0b_v73 : Ref sig .tc := ⟨.hbm, 171, rfl⟩
abbrev main_while0b_v74 : Ref sig .tc := ⟨.hbm, 172, rfl⟩
abbrev main_while0b_v75 : Ref sig .tc := ⟨.hbm, 173, rfl⟩
abbrev main_while0b_v76 : Ref sig .tc := ⟨.hbm, 174, rfl⟩
abbrev main_while0b_v77 : Ref sig .tc := ⟨.hbm, 175, rfl⟩
abbrev main_while0b_v78 : Ref sig .tc := ⟨.hbm, 176, rfl⟩
abbrev main_while0b_c_38 : Ref sig .tc := ⟨.hbm, 177, rfl⟩
abbrev main_while0b_v79 : Ref sig .tc := ⟨.hbm, 178, rfl⟩
abbrev main_while0b_c_39 : Ref sig .tc := ⟨.hbm, 179, rfl⟩
abbrev main_while0b_v80 : Ref sig .tc := ⟨.hbm, 180, rfl⟩
abbrev main_while0b_v81 : Ref sig .tc := ⟨.hbm, 181, rfl⟩
abbrev main_while0b_c_40 : Ref sig .tc := ⟨.hbm, 182, rfl⟩
abbrev main_while0b_v82 : Ref sig .tc := ⟨.hbm, 183, rfl⟩
abbrev main_while0b_c_41 : Ref sig .tc := ⟨.hbm, 184, rfl⟩
abbrev main_while0b_v83 : Ref sig .tc := ⟨.hbm, 185, rfl⟩
abbrev main_while0b_v84 : Ref sig .tc := ⟨.hbm, 186, rfl⟩
abbrev main_while0b_v85 : Ref sig .tc := ⟨.hbm, 187, rfl⟩
abbrev main_while0b_v86 : Ref sig .tc := ⟨.hbm, 188, rfl⟩
abbrev main_while0b_v87 : Ref sig .tc := ⟨.hbm, 189, rfl⟩
abbrev main_while0b_v88 : Ref sig .tc := ⟨.hbm, 190, rfl⟩
abbrev main_while0b_v89 : Ref sig .tc := ⟨.hbm, 191, rfl⟩
abbrev main_while0b_v90 : Ref sig .tc := ⟨.hbm, 192, rfl⟩
abbrev main_while0b_v91 : Ref sig .tc := ⟨.hbm, 193, rfl⟩
abbrev main_while0b_c_42 : Ref sig .tc := ⟨.hbm, 194, rfl⟩
abbrev main_while0b_call7_v0 : Ref sig .tc := ⟨.hbm, 195, rfl⟩
abbrev main_while0b_call7_v1 : Ref sig .tc := ⟨.hbm, 196, rfl⟩
abbrev main_while0b_call7_v2 : Ref sig .tc := ⟨.hbm, 197, rfl⟩
abbrev main_while0b_call7_v3 : Ref sig .tc := ⟨.hbm, 198, rfl⟩
abbrev main_while0b_call7_v4 : Ref sig .tc := ⟨.hbm, 199, rfl⟩
abbrev main_while0b_call7_c : Ref sig .tc := ⟨.hbm, 200, rfl⟩
abbrev main_while0b_call7_v5 : Ref sig .tc := ⟨.hbm, 201, rfl⟩
abbrev main_while0b_call7_c_0 : Ref sig .tc := ⟨.hbm, 202, rfl⟩
abbrev main_while0b_call7_v6 : Ref sig .tc := ⟨.hbm, 203, rfl⟩
abbrev main_while0b_call7_v7 : Ref sig .tc := ⟨.hbm, 204, rfl⟩
abbrev main_while0b_call7_v8 : Ref sig .tc := ⟨.hbm, 205, rfl⟩
abbrev main_while0b_call7_c_1 : Ref sig .tc := ⟨.hbm, 206, rfl⟩
abbrev main_while0b_call7_v9 : Ref sig .tc := ⟨.hbm, 207, rfl⟩
abbrev main_while0b_call7_v10 : Ref sig .tc := ⟨.hbm, 208, rfl⟩
abbrev main_while0b_call7_v11 : Ref sig .tc := ⟨.hbm, 209, rfl⟩
abbrev main_while0b_call7_v12 : Ref sig .tc := ⟨.hbm, 210, rfl⟩
abbrev main_while0b_call7_c_2 : Ref sig .tc := ⟨.hbm, 211, rfl⟩
abbrev main_while0b_call7_v13 : Ref sig .tc := ⟨.hbm, 212, rfl⟩
abbrev main_while0b_v92 : Ref sig .tc := ⟨.hbm, 213, rfl⟩
abbrev main_while0b_c_43 : Ref sig .tc := ⟨.hbm, 214, rfl⟩
abbrev main_while0b_call8_c : Ref sig .tc := ⟨.hbm, 215, rfl⟩
abbrev main_while0b_call8_v0 : Ref sig .tc := ⟨.hbm, 216, rfl⟩
abbrev main_while0b_call8_c_0 : Ref sig .tc := ⟨.hbm, 217, rfl⟩
abbrev main_while0b_call8_v1 : Ref sig .tc := ⟨.hbm, 218, rfl⟩
abbrev main_while0b_call8_v2 : Ref sig .tc := ⟨.hbm, 219, rfl⟩
abbrev main_while0b_call8_c_1 : Ref sig .tc := ⟨.hbm, 220, rfl⟩
abbrev main_while0b_call8_v3 : Ref sig .tc := ⟨.hbm, 221, rfl⟩
abbrev main_while0b_call8_c_2 : Ref sig .tc := ⟨.hbm, 222, rfl⟩
abbrev main_while0b_call8_v4 : Ref sig .tc := ⟨.hbm, 223, rfl⟩
abbrev main_while0b_call8_c_3 : Ref sig .tc := ⟨.hbm, 224, rfl⟩
abbrev main_while0b_call8_v5 : Ref sig .tc := ⟨.hbm, 225, rfl⟩
abbrev main_while0b_call8_v6 : Ref sig .tc := ⟨.hbm, 226, rfl⟩
abbrev main_while0b_call8_v7 : Ref sig .tc := ⟨.hbm, 227, rfl⟩
abbrev main_while0b_call8_v8 : Ref sig .tc := ⟨.hbm, 228, rfl⟩
abbrev main_while0b_v93 : Ref sig .tc := ⟨.hbm, 229, rfl⟩
abbrev main_while0b_v94 : Ref sig .tc := ⟨.hbm, 230, rfl⟩
abbrev main_while0b_c_44 : Ref sig .tc := ⟨.hbm, 231, rfl⟩
abbrev main_while0b_c_45 : Ref sig .tc := ⟨.hbm, 232, rfl⟩
abbrev main_while0b_v95 : Ref sig .tc := ⟨.hbm, 233, rfl⟩
abbrev main_while0b_c_46 : Ref sig .tc := ⟨.hbm, 234, rfl⟩
abbrev main_while0b_c_47 : Ref sig .tc := ⟨.hbm, 235, rfl⟩
abbrev main_while0b_v96 : Ref sig .tc := ⟨.hbm, 236, rfl⟩
abbrev main_while0b_c_48 : Ref sig .tc := ⟨.hbm, 237, rfl⟩
abbrev main_while0b_v97 : Ref sig .tc := ⟨.hbm, 238, rfl⟩
abbrev main_while0b_c_49 : Ref sig .tc := ⟨.hbm, 239, rfl⟩
abbrev main_while0b_v98 : Ref sig .tc := ⟨.hbm, 240, rfl⟩
abbrev main_while0b_c_50 : Ref sig .tc := ⟨.hbm, 241, rfl⟩
abbrev main_while0b_v99 : Ref sig .tc := ⟨.hbm, 242, rfl⟩
abbrev main_while0b_v100 : Ref sig .tc := ⟨.hbm, 243, rfl⟩
abbrev main_while0b_v101 : Ref sig .tc := ⟨.hbm, 244, rfl⟩
abbrev main_while0b_v102 : Ref sig .tc := ⟨.hbm, 245, rfl⟩
abbrev main_while0b_v103 : Ref sig .tc := ⟨.hbm, 246, rfl⟩
abbrev main_while0b_c_51 : Ref sig .tc := ⟨.hbm, 247, rfl⟩
abbrev main_while0b_c_52 : Ref sig .tc := ⟨.hbm, 248, rfl⟩
abbrev main_while0b_v104 : Ref sig .tc := ⟨.hbm, 249, rfl⟩
abbrev main_while0b_c_53 : Ref sig .tc := ⟨.hbm, 250, rfl⟩
abbrev main_while0b_c_54 : Ref sig .tc := ⟨.hbm, 251, rfl⟩
abbrev main_while0b_v105 : Ref sig .tc := ⟨.hbm, 252, rfl⟩
abbrev main_while0b_c_55 : Ref sig .tc := ⟨.hbm, 253, rfl⟩
abbrev main_while0b_v106 : Ref sig .tc := ⟨.hbm, 254, rfl⟩
abbrev main_while0b_c_56 : Ref sig .tc := ⟨.hbm, 255, rfl⟩
abbrev main_while0b_v107 : Ref sig .tc := ⟨.hbm, 256, rfl⟩
abbrev main_while0b_c_57 : Ref sig .tc := ⟨.hbm, 257, rfl⟩
abbrev main_while0b_v108 : Ref sig .tc := ⟨.hbm, 258, rfl⟩
abbrev main_while0b_v109 : Ref sig .tc := ⟨.hbm, 259, rfl⟩
abbrev main_while0b_v110 : Ref sig .tc := ⟨.hbm, 260, rfl⟩
abbrev main_while0b_v111 : Ref sig .tc := ⟨.hbm, 261, rfl⟩
abbrev main_while0b_cst_58 : Ref sig .tc := ⟨.hbm, 262, rfl⟩
abbrev main_while0b_call9_v0 : Ref sig .tc := ⟨.hbm, 263, rfl⟩
abbrev main_while0b_call9_v1 : Ref sig .tc := ⟨.hbm, 264, rfl⟩
abbrev main_while0b_v112 : Ref sig .tc := ⟨.hbm, 265, rfl⟩
abbrev main_while0b_cst_59 : Ref sig .tc := ⟨.hbm, 266, rfl⟩
abbrev main_while0b_v113 : Ref sig .tc := ⟨.hbm, 267, rfl⟩
abbrev main_while0b_v114 : Ref sig .tc := ⟨.hbm, 268, rfl⟩
abbrev main_while0b_v115 : Ref sig .tc := ⟨.hbm, 269, rfl⟩
abbrev main_while0b_c_60 : Ref sig .tc := ⟨.hbm, 270, rfl⟩
abbrev main_while0b_v116 : Ref sig .tc := ⟨.hbm, 271, rfl⟩
abbrev main_while0b_c_61 : Ref sig .tc := ⟨.hbm, 272, rfl⟩
abbrev main_while0b_v117 : Ref sig .tc := ⟨.hbm, 273, rfl⟩
abbrev main_while0b_v118 : Ref sig .tc := ⟨.hbm, 274, rfl⟩
abbrev main_while0b_c_62 : Ref sig .tc := ⟨.hbm, 275, rfl⟩
abbrev main_while0b_v119 : Ref sig .tc := ⟨.hbm, 276, rfl⟩
abbrev main_while0b_c_63 : Ref sig .tc := ⟨.hbm, 277, rfl⟩
abbrev main_while0b_v120 : Ref sig .tc := ⟨.hbm, 278, rfl⟩
abbrev main_while0b_v121 : Ref sig .tc := ⟨.hbm, 279, rfl⟩
abbrev main_while0b_v122 : Ref sig .tc := ⟨.hbm, 280, rfl⟩
abbrev main_while0b_v123 : Ref sig .tc := ⟨.hbm, 281, rfl⟩
abbrev main_while0b_v124 : Ref sig .tc := ⟨.hbm, 282, rfl⟩
abbrev main_while0b_cst_64 : Ref sig .tc := ⟨.hbm, 283, rfl⟩
abbrev main_while0b_v125 : Ref sig .tc := ⟨.hbm, 284, rfl⟩
abbrev main_while0b_v126 : Ref sig .tc := ⟨.hbm, 285, rfl⟩
abbrev main_while0b_v127 : Ref sig .tc := ⟨.hbm, 286, rfl⟩
abbrev main_while0b_cst_65 : Ref sig .tc := ⟨.hbm, 287, rfl⟩
abbrev main_while0b_v128 : Ref sig .tc := ⟨.hbm, 288, rfl⟩
abbrev main_while0b_c_66 : Ref sig .tc := ⟨.hbm, 289, rfl⟩
abbrev main_while0b_v129 : Ref sig .tc := ⟨.hbm, 290, rfl⟩
abbrev main_while0b_c_67 : Ref sig .tc := ⟨.hbm, 291, rfl⟩
abbrev main_while0b_v130 : Ref sig .tc := ⟨.hbm, 292, rfl⟩
abbrev main_while0b_v131 : Ref sig .tc := ⟨.hbm, 293, rfl⟩
abbrev main_while0b_c_68 : Ref sig .tc := ⟨.hbm, 294, rfl⟩
abbrev main_while0b_v132 : Ref sig .tc := ⟨.hbm, 295, rfl⟩
abbrev main_while0b_c_69 : Ref sig .tc := ⟨.hbm, 296, rfl⟩
abbrev main_while0b_v133 : Ref sig .tc := ⟨.hbm, 297, rfl⟩
abbrev main_while0b_v134 : Ref sig .tc := ⟨.hbm, 298, rfl⟩
abbrev main_while0b_v135 : Ref sig .tc := ⟨.hbm, 299, rfl⟩
abbrev main_while0b_v136 : Ref sig .tc := ⟨.hbm, 300, rfl⟩
abbrev main_while0b_v137 : Ref sig .tc := ⟨.hbm, 301, rfl⟩
abbrev main_while0b_v138 : Ref sig .tc := ⟨.hbm, 302, rfl⟩
abbrev main_while0b_v139 : Ref sig .tc := ⟨.hbm, 303, rfl⟩
abbrev main_while0b_v140 : Ref sig .tc := ⟨.hbm, 304, rfl⟩
abbrev main_while0b_v141 : Ref sig .tc := ⟨.hbm, 305, rfl⟩
abbrev main_while0b_c_70 : Ref sig .tc := ⟨.hbm, 306, rfl⟩
abbrev main_while0b_v142 : Ref sig .tc := ⟨.hbm, 307, rfl⟩
abbrev main_v5 : Ref sig .tc := ⟨.hbm, 308, rfl⟩
abbrev main_cst_4 : Ref sig .tc := ⟨.hbm, 309, rfl⟩
abbrev main_v6 : Ref sig .tc := ⟨.hbm, 310, rfl⟩
abbrev main_v7 : Ref sig .tc := ⟨.hbm, 311, rfl⟩
abbrev main_v8 : Ref sig .tc := ⟨.hbm, 312, rfl⟩
abbrev main_v9 : Ref sig .tc := ⟨.hbm, 313, rfl⟩
abbrev main_v10 : Ref sig .tc := ⟨.hbm, 314, rfl⟩
abbrev main_v11 : Ref sig .tc := ⟨.hbm, 315, rfl⟩
abbrev main_v12 : Ref sig .tc := ⟨.hbm, 316, rfl⟩
abbrev main_v13 : Ref sig .tc := ⟨.hbm, 317, rfl⟩
abbrev main_v14 : Ref sig .tc := ⟨.hbm, 318, rfl⟩
abbrev main_v15 : Ref sig .tc := ⟨.hbm, 319, rfl⟩
abbrev main_v16 : Ref sig .tc := ⟨.hbm, 320, rfl⟩
abbrev main_v17 : Ref sig .tc := ⟨.hbm, 321, rfl⟩
abbrev main_v18 : Ref sig .tc := ⟨.hbm, 322, rfl⟩
abbrev main_v19 : Ref sig .tc := ⟨.hbm, 323, rfl⟩
abbrev main_v20 : Ref sig .tc := ⟨.hbm, 324, rfl⟩
abbrev main_v21 : Ref sig .tc := ⟨.hbm, 325, rfl⟩
abbrev main_v22 : Ref sig .tc := ⟨.hbm, 326, rfl⟩
abbrev main_cst_5 : Ref sig .tc := ⟨.hbm, 327, rfl⟩
abbrev main_v23 : Ref sig .tc := ⟨.hbm, 328, rfl⟩
abbrev main_v24 : Ref sig .tc := ⟨.hbm, 329, rfl⟩
abbrev main_c_6 : Ref sig .tc := ⟨.hbm, 330, rfl⟩
abbrev main_c_7 : Ref sig .tc := ⟨.hbm, 331, rfl⟩
abbrev main_call11_v0 : Ref sig .tc := ⟨.hbm, 332, rfl⟩
abbrev main_call11_v1 : Ref sig .tc := ⟨.hbm, 333, rfl⟩
abbrev main_v25 : Ref sig .tc := ⟨.hbm, 334, rfl⟩

abbrev nD : Nat := 1
abbrev τ : Topo := Topo.v7x

variable {F : FTy → Type} [FloatOps F]

abbrev main_while0_count : Scf.Loop 32 := ⟨0#32, 51200#32, 1#32⟩
-- ==== Proof.Decide.lean ====
/-
  The kernel's run, over any float values `F` (hand-written, untrusted). One scalar-subcore call over two SparseCores: core 0's sequencer copies
  the 32 inputs into its scalar memory, writes one word per input, 0 where the input is above zero and 1 elsewhere, and
  copies the words out; core 1's returns at once. `run_main`: every weakly fair execution ends with the input unchanged, the
  result at `bits` of the input and every semaphore counter at zero. The words are in the run from the start, so that the
  frames and the value claim are read off the one theorem.
-/
module

public import proofs.«01_k».proof.Defs
public import proofs.«01_k».proof.Proof.Gen.Kernel
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Decide

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the launch's handshakes on the left, the transfers' counters on the right -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Buffers and what the call hands over -/

variable (m : (ℓ : Loc nD τ sig) → Buf (Elt F) ℓ) (ρ : Dev nD → PrngReg)

abbrev xW : Memref sig Kind.scScalar Space.hbm S32 EltTy.f32 := Memref.whole main_arg0_scs
abbrev oW : Memref sig Kind.scScalar Space.hbm S32 EltTy.i32 := Memref.whole main_v0_scs
abbrev inW : Memref sig Kind.scScalar Space.smem S32 EltTy.f32 := Memref.whole cc0_scratch0
abbrev outW : Memref sig Kind.scScalar Space.smem S32 EltTy.i32 := Memref.whole cc0_scratch1

abbrev xLoc (d : Dev nD) : Loc nD τ sig := (SparseCore.T d).loc main_arg0
abbrev oLoc (d : Dev nD) : Loc nD τ sig := (SparseCore.T d).loc main_v0
abbrev inLoc (d : Dev nD) (c : Fin τ.nSC) : Loc nD τ sig := (S d c).loc cc0_scratch0
abbrev outLoc (d : Dev nD) (c : Fin τ.nSC) : Loc nD τ sig := (S d c).loc cc0_scratch1

variable [FloatOps F]

/-- The word the kernel decides from one input. -/
def bit (v : Elt F .f32) : Elt F .i32 := Scalar.select (Scalar.cmpf .ogt v (Scalar.ofBits .f32 0x00000000#32)) 0#32 1#32

/-- The words of an array of inputs. -/
def bits (x : S32.Idx → Elt F .f32) : S32.Idx → Elt F .i32 := fun i => bit (x i)

/-- The result's contents after the call. -/
abbrev Y (d : Dev nD) : Buf (Elt F) (oLoc d) := bits (m (xLoc d))

abbrev xPts (d : Dev nD) : sProp 𝕄 := xLoc d ↦{fullShare} m (xLoc d)
abbrev oPts (d : Dev nD) (f : Buf (Elt F) (oLoc d)) : sProp 𝕄 := oLoc d ↦{fullShare} f

/-- Core `c`'s part of `R`: all of it for core 0, nothing for the other. -/
def only0 (R : sProp 𝕄) (c : ℕ) : sProp 𝕄 := if c = 0 then R else iprop(emp)

omit [FloatOps F] in
theorem only0_zero (R : sProp 𝕄) : only0 R 0 = R := if_pos rfl
omit [FloatOps F] in
theorem only0_one (R : sProp 𝕄) : only0 R 1 = iprop(emp) := if_neg Nat.one_ne_zero
omit [FloatOps F] in
theorem only0_both (R : sProp 𝕄) : (bigSep (Finset.univ : Finset (Fin 2)) fun c => only0 R c.val) = iprop(R ∗ emp) := by
  rw [show (Finset.univ : Finset (Fin 2)) = {0, 1} by decide, SparseCore.bigSep_insert' (by decide), bigSep_singleton]
  exact congrArg₂ (fun A B => iprop(A ∗ B)) (only0_zero R) (only0_one R)

instance only0_storable (R : sProp 𝕄) [BI.Storable (upEmb : UEmb _ 𝕄) R] (c : ℕ) : BI.Storable (upEmb : UEmb _ 𝕄) (only0 R c) := by
  unfold only0; split <;> infer_instance

/-- What core 0's sequencer is handed: the input, and the result's buffer at anything; what it gives back: the result decided. -/
abbrev Pre0 (d : Dev nD) : sProp 𝕄 := iprop(xPts m d ∗ ∃ f, oPts d f)
abbrev Post0 (d : Dev nD) : sProp 𝕄 := iprop(xPts m d ∗ oPts d (Y m d))

def P : (K (F := F)).Pay (nD := nD) (Val := Elt F) (Name := ℕ) (U := UU) where
  st := fun _ d c => only0 (Pre0 m d) c.val
  dn := fun _ d c => only0 (Post0 m d) c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A sequencer's own scratch and cells -/

section Own

variable (d : Dev nD) (c : Fin τ.nSC)

abbrev cellIn : GSem nD τ sig := (S d c, .dma cc0_scoped0.sem)
abbrev cellOut : GSem nD τ sig := (S d c, .dma cc0_scoped1.sem)
abbrev bIn : DevRef τ sig := (Proc.scScalar c).devRef cc0_scratch0
abbrev bOut : DevRef τ sig := (Proc.scScalar c).devRef cc0_scratch1

omit [FloatOps F] in
/-- The two copies' cells, and the rest. -/
theorem ownSems0_two : (ownSems0 (S d c) : sProp 𝕄)
    = iprop(semVal (cellIn d c) 0 ∗ semVal (cellOut d c) 0
        ∗ bigSep (((ownCells (S d c)).erase (cellIn d c)).erase (cellOut d c)) fun g => semVal g 0) := by
  unfold SparseCore.Cfg.ownSems0
  rw [SparseCore.bigSep_erase' (i := cellIn d c) ((mem_ownCells (g := cellIn d c)).mpr ⟨rfl, show (SemLoc.dma cc0_scoped0.sem : SemLoc sig).isScoped .scScalar = true by decide⟩),
    SparseCore.bigSep_erase' (i := cellOut d c) (Finset.mem_erase.mpr
      ⟨fun h => absurd (congrArg (fun g : GSem nD τ sig => g.2) h) (show (SemLoc.dma cc0_scoped1.sem : SemLoc sig) ≠ .dma cc0_scoped0.sem by decide),
        (mem_ownCells (g := cellOut d c)).mpr ⟨rfl, show (SemLoc.dma cc0_scoped1.sem : SemLoc sig).isScoped .scScalar = true by decide⟩⟩)]

omit [FloatOps F] in
/-- The two scratch arrays, each at something, and the rest. -/
theorem ownBufs_two : (ownBufs (S d c) : sProp 𝕄)
    = iprop((∃ f, inLoc d c ↦{fullShare} f) ∗ (∃ f, outLoc d c ↦{fullShare} f)
        ∗ bigSep (((ownRefs (τ := τ) (.scScalar c)).erase (bIn c)).erase (bOut c)) fun b => iprop(∃ f, ((d, b) : Loc nD τ sig) ↦{fullShare} f)) := by
  unfold SparseCore.Cfg.ownBufs
  rw [SparseCore.bigSep_erase' (i := bIn c) ((mem_ownRefs (p := Proc.scScalar c) (b := bIn c)).mpr rfl),
    SparseCore.bigSep_erase' (i := bOut c) (Finset.mem_erase.mpr ⟨by revert c; decide, (mem_ownRefs (p := Proc.scScalar c) (b := bOut c)).mpr rfl⟩)]

omit [FloatOps F] in
/-- A buffer as a sequencer's whole memref addresses it. -/
theorem pts_x (f : Buf (Elt F) (xLoc d)) : (xW.view.loc (S d c) ↦{fullShare} f : sProp 𝕄) = xLoc d ↦{fullShare} f := by
  simp only [Memref.view_whole, View.set_whole]
omit [FloatOps F] in
theorem pts_o (f : Buf (Elt F) (oLoc d)) : (oW.view.loc (S d c) ↦{fullShare} f : sProp 𝕄) = oLoc d ↦{fullShare} f := by
  simp only [Memref.view_whole, View.set_whole]
omit [FloatOps F] in
theorem pts_in (f : Buf (Elt F) (inLoc d c)) : (inW.view.loc (S d c) ↦{fullShare} f : sProp 𝕄) = inLoc d c ↦{fullShare} f := by
  simp only [Memref.view_whole, View.set_whole]
omit [FloatOps F] in
theorem pts_out (f : Buf (Elt F) (outLoc d c)) : (outW.view.loc (S d c) ↦{fullShare} f : sProp 𝕄) = outLoc d c ↦{fullShare} f := by
  simp only [Memref.view_whole, View.set_whole]

end Own

/-! ## The body -/

section Body

variable (d : Dev nD)

def coordsS (c : Fin (grid0.bound 0)) : grid0.Coords := fun | 0 => c | ⟨_ + 1, h⟩ => absurd h (Nat.not_lt.2 (Nat.le_add_left _ _))

/-- The sequencer of the grid's core `c`. -/
abbrev Sq (c : Fin (grid0.bound 0)) : Thread nD τ := S d (c.castLE hcore0)

/-- The kernel function as the body table calls it. -/
abbrev body (c : Fin (grid0.bound 0)) : Prog (TpuEff nD τ sig (Elt F) Λ₀ (.scScalar ((coordsS c 0).castLE hcore0))) PUnit :=
  cc0__decide (coordsS c) xW (Memref.isWhole_whole _) oW (Memref.isWhole_whole _) inW (Memref.isWhole_whole _) outW (Memref.isWhole_whole _) cc0_scoped0 cc0_scoped1

/-- A one-lane read at an offset of the staging scratch, once the whole of it has been copied in, is the copied vector's entry there. -/
theorem staged_read (X : S32.Idx → Elt F .f32) (fi : (Memref.whole cc0_scratch0 : Memref sig .scScalar .smem S32 .f32).view.ty.Contents (Elt F))
    (o : Fin 1 → ℕ) (inb : ∀ a, o a + S1.size a ≤ S32.size a) (h0) (x : (Rect.unit (s := S32) o S1.size inb).shape.Idx) :
    (Memref.whole cc0_scratch0 : Memref sig .scScalar .smem S32 .f32).view.readAt (Elt F) (Rect.unit (s := S32) o S1.size inb).toLoadRect
      ((Memref.whole cc0_scratch0 : Memref sig .scScalar .smem S32 .f32).view.write (Elt F) fi X Finset.univ) (Shape.Idx.first h0)
      = X ((Rect.unit (s := S32) o S1.size inb).emb x) := by
  have hx : x = Shape.Idx.first h0 := by
    funext a
    match a with
    | ⟨0, _⟩ => exact Subsingleton.elim (α := Fin 1) _ _
  rw [hx]
  simp only [Memref.view_whole, View.write_whole_univ]
  rfl

set_option maxHeartbeats 1000000 in
/-- Core 0's sequencer, in the body's spelling. -/
theorem run0 (h : 0 < grid0.bound 0) (O : CellTallies nD τ sig (HIx 1)) (W : Waits sig (HIx 1))
    (fo : Buf (Elt F) (oW.view.loc (Sq d ⟨0, h⟩))) (fi : Buf (Elt F) (inW.view.loc (Sq d ⟨0, h⟩))) (fs : Buf (Elt F) (outW.view.loc (Sq d ⟨0, h⟩))) :
    (iprop(Transfers.MayWaits (Sq d ⟨0, h⟩) (none : HIx 1) O
        ∗ (xW.view.loc (Sq d ⟨0, h⟩) ↦{fullShare} m (xLoc d))
        ∗ (oW.view.loc (Sq d ⟨0, h⟩) ↦{fullShare} fo)
        ∗ (inW.view.loc (Sq d ⟨0, h⟩) ↦{fullShare} fi)
        ∗ (outW.view.loc (Sq d ⟨0, h⟩) ↦{fullShare} fs)
        ∗ semVal (Sq d ⟨0, h⟩, SemLoc.dma cc0_scoped0.sem) 0 ∗ semVal (Sq d ⟨0, h⟩, SemLoc.dma cc0_scoped1.sem) 0
        ∗ owes (Sq d ⟨0, h⟩) O W) : sProp 𝕄)
      ⊢ wp frame (wpE (defs₀ (F := F)) 𝒱₀ (Sq d ⟨0, h⟩) none) Set.univ (body ⟨0, h⟩)
          fun _ => iprop((xW.view.loc (Sq d ⟨0, h⟩) ↦{fullShare} m (xLoc d))
            ∗ (oW.view.loc (Sq d ⟨0, h⟩) ↦{fullShare} Y m d)
            ∗ (∃ f, inW.view.loc (Sq d ⟨0, h⟩) ↦{fullShare} f)
            ∗ (∃ f, outW.view.loc (Sq d ⟨0, h⟩) ↦{fullShare} f)
            ∗ semVal (Sq d ⟨0, h⟩, SemLoc.dma cc0_scoped0.sem) 0 ∗ semVal (Sq d ⟨0, h⟩, SemLoc.dma cc0_scoped1.sem) 0
            ∗ ∃ W', ⌜∀ p ∈ W', p ∈ W ∨ p.2 = none⌝ ∗ owes (Sq d ⟨0, h⟩) O W') := by
  have k0_h1 : Scalar.cmpi .ne (Scalar.extui (Scalar.cmpi .eq (BitVec.ofNat 32 ((coordsS ⟨0, h⟩) 0).val) 0#32) : BitVec 32) 0#32 = 1#1 := by decide +revert
  unfold body xW oW inW outW Sq
  iintro ⟨#Hmw, Hx, Ho, Hin, Hout, Hc0, Hc1, HO⟩
  rw [cc0__decide_eq_skeleton]
  unfold cc0__decide_skel
  sl_exec
  sl_step
  have hcov : ∀ y, ∃ p ∈ run0.sl.Hout_32 m d h fi, y ∈ p.1.set := View.cover_of_tiled (run0.sl.Hout_32 m d h fi) S1.size rfl
  have hG : ∀ p ∈ run0.sl.Hout_32 m d h fi, ∀ x : p.1.shape.Idx, p.2 x = bits (m (xLoc d)) (p.1.emb x) := by
    unfold run0.sl.Hout_32
    simp only [List.forall_mem_cons, List.not_mem_nil, false_imp_iff, implies_true, and_true]
    and_intros <;>
      exact fun x => congrArg bit (staged_read (m (xLoc d)) fi _ _ _ x)
  have hR := funext fun y => View.read_writes_apply_of_pieces (Memref.whole cc0_scratch1).view fs (bits (m (xLoc d))) _ hG y (hcov y)
  have hY : View.write (Elt F) (Memref.whole main_v0_scs).view fo (run0.sl.dma96 m d h fi fs) Finset.univ = Y m d := by
    unfold run0.sl.dma96
    rw [hR]
    exact View.write_whole_univ main_v0_scs fo _
  rw [hY]
  isplitl [Hx]; · iexact Hx
  isplitl [Ho]; · iexact Ho
  isplitl [Hin]; · iexists _; iexact Hin
  isplitl [Hout]; · iexists _; iexact Hout
  isplitl [Hc0]; · iexact Hc0
  isplitl [Hc1]; · iexact Hc1
  iexists _; isplitr
  rotate_left
  · iexact HO
  · ipureintro
    intro p hp
    rcases Finset.mem_insert.mp hp with rfl | hp
    · exact .inr rfl
    rcases Finset.mem_insert.mp hp with rfl | hp
    · exact .inr rfl
    exact .inl hp

/-- The kernel on core 0's sequencer: its scratch and its cells taken out, `run0`, and put back. -/
theorem body0 (h : 0 < grid0.bound 0) (O : CellTallies nD τ sig (HIx 1)) (W : Waits sig (HIx 1)) (hO : ∀ g, O g none = 0) :
    iprop(levAts (K (F := F)).L (K (F := F)).lev ∗ emp ∗ only0 (Pre0 m d) 0
        ∗ scopedBufs (Sq d ⟨0, h⟩) ∗ scopedSems0 (Sq d ⟨0, h⟩) ∗ owes (Sq d ⟨0, h⟩) O W)
      ⊢ wp frame (wpE (defs₀ (F := F)) 𝒱₀ (Sq d ⟨0, h⟩) none) Set.univ (body ⟨0, h⟩)
          fun _ => iprop(only0 (Post0 m d) 0 ∗ scopedBufs (Sq d ⟨0, h⟩) ∗ scopedSems0 (Sq d ⟨0, h⟩)
            ∗ ∃ W', ⌜∀ p ∈ W', p ∈ W ∨ p.2 = none⌝ ∗ owes (Sq d ⟨0, h⟩) O W') := by
  rw [only0_zero, only0_zero, (K (F := F)).scopedBufs_S scFacts d _, SparseCore.Cfg.scopedSems0_S (Val := Elt F) d _, ownSems0_two, ownBufs_two]
  iintro ⟨#Hlv, -, ⟨Hx, %fo, Ho⟩, ⟨⟨⟨%fi, Hin⟩, ⟨%fs, Hout⟩, Hbufs⟩, Htiles⟩, ⟨⟨Hc0, Hc1, Hsems⟩, HtileSems⟩, HO⟩
  ihave Hmw := ((K (F := F)).mayWaits_none (thr := Sq d ⟨0, h⟩) hO) $$ Hlv
  ihave Hx' := (Entails.of_eq (pts_x (F := F) d _ _).symm) $$ Hx
  ihave Ho' := (Entails.of_eq (pts_o (F := F) d _ _).symm) $$ Ho
  ihave Hin' := (Entails.of_eq (pts_in (F := F) d _ _).symm) $$ Hin
  ihave Hout' := (Entails.of_eq (pts_out (F := F) d _ _).symm) $$ Hout
  iapply (wp_wand_r Idealize.ShloMosaic.frame (wpE (defs₀ (F := F)) 𝒱₀ (Sq d ⟨0, h⟩) none) Set.univ)
  isplitl [Hx' Ho' Hin' Hout' Hc0 Hc1 HO]
  · iapply (run0 m d h O W fo fi fs)
    isplitr; · iexact Hmw
    isplitl [Hx']; · iexact Hx'
    isplitl [Ho']; · iexact Ho'
    isplitl [Hin']; · iexact Hin'
    isplitl [Hout']; · iexact Hout'
    isplitl [Hc0]; · iexact Hc0
    isplitl [Hc1]; · iexact Hc1
    iexact HO
  iintro %_ ⟨Hx', Ho', ⟨%f1, Hin'⟩, ⟨%f2, Hout'⟩, Hc0, Hc1, HW⟩
  isplitl [Hx' Ho']
  · isplitl [Hx']; · iapply (Entails.of_eq (pts_x (F := F) d _ _)); iexact Hx'
    iapply (Entails.of_eq (pts_o (F := F) d _ _)); iexact Ho'
  isplitl [Hin' Hout' Hbufs Htiles]
  · isplitl [Hin' Hout' Hbufs]
    · isplitl [Hin']; · iexists _; iapply (Entails.of_eq (pts_in (F := F) d _ _)); iexact Hin'
      isplitl [Hout']; · iexists _; iapply (Entails.of_eq (pts_out (F := F) d _ _)); iexact Hout'
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexact HW

/-- The kernel on core 1's sequencer, which has nothing to do. -/
theorem body1 (h : 1 < grid0.bound 0) (O : CellTallies nD τ sig (HIx 1)) (W : Waits sig (HIx 1)) :
    iprop(levAts (K (F := F)).L (K (F := F)).lev ∗ emp ∗ only0 (Pre0 m d) 1
        ∗ scopedBufs (Sq d ⟨1, h⟩) ∗ scopedSems0 (Sq d ⟨1, h⟩) ∗ owes (Sq d ⟨1, h⟩) O W)
      ⊢ wp frame (wpE (defs₀ (F := F)) 𝒱₀ (Sq d ⟨1, h⟩) none) Set.univ (body ⟨1, h⟩)
          fun _ => iprop(only0 (Post0 m d) 1 ∗ scopedBufs (Sq d ⟨1, h⟩) ∗ scopedSems0 (Sq d ⟨1, h⟩)
            ∗ ∃ W', ⌜∀ p ∈ W', p ∈ W ∨ p.2 = none⌝ ∗ owes (Sq d ⟨1, h⟩) O W') := by
  have k0_h1 : ¬ Scalar.cmpi .ne (Scalar.extui (Scalar.cmpi .eq (BitVec.ofNat 32 ((coordsS ⟨1, h⟩) 0).val) 0#32) : BitVec 32) 0#32 = 1#1 := by decide +revert
  rw [only0_one, only0_one]
  unfold body
  rw [cc0__decide_eq_skeleton]
  unfold cc0__decide_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

end Body

/-! ## The launch theorem's obligation -/

theorem defs₀_scalar (c : Fin τ.nSC) :
    defs₀ (F := F) (.scScalar c) 0 () = SparseCore.onCore hcore0 (fun c => body c) ⟨⟩ c := rfl

omit [FloatOps F] in
/-- A wait at no call is one the launch theorem allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ only0 (Pre0 m d) c.val ∗ _) ⊢ wp _ _ _ _ (fun _ => iprop(only0 (Post0 m d) c.val ∗ _))
  match c with
  | ⟨0, h⟩ => exact (body0 m d h O W hO).trans (wp_mono frame _ _ fun _ => obl_post)
  | ⟨1, h⟩ => exact (body1 m d h O W).trans (wp_mono frame _ _ fun _ => obl_post)

/-! ## The launch element -/

def u₀ : UU := (initOf (K (F := F)).hsCells (K (F := F)).hsToks, 1)

omit [FloatOps F] in
theorem nothing_of_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing_of_each]; iempintro
  unfold P; dsimp only
  rw [show (bigSep Finset.univ fun _ : Thread nD τ => bigSep Finset.univ fun _ : Fin 1 => (iprop(emp) : sProp 𝕄)) = iprop(emp) from by
    rw [bigSep_congr fun _ _ => nothing_of_each _, nothing_of_each]]
  iempintro

/-! ## The main program -/

omit [FloatOps F] in
/-- The arrays the TensorCore holds outside every scope: the input and the result. -/
theorem unscopedBufs_two (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two cores, and what it hands back. -/
theorem st0_eq (d : Dev nD) : (bigSep Finset.univ fun c : Fin ((K (F := F)).nCore 0) => (P m).st 0 d c) = iprop(Pre0 m d ∗ emp) := only0_both _
theorem dn0_eq (d : Dev nD) : (bigSep Finset.univ fun c : Fin ((K (F := F)).nCore 0) => (P m).dn 0 d c) = iprop(Post0 m d ∗ emp) := only0_both _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Post0 m d ∗ (K (F := F)).tcEnd d) := by
  unfold SparseCore.Cfg.tcRes SparseCore.Cfg.tcEnd
  rw [unscopedBufs_two]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx Ho]
    · isplitl [Hx]; · iexact Hx
      iexists _; iexact Ho
    · iempintro
  iintro ⟨Hst, Hdn⟩
  ihave Hdn' := (Entails.of_eq (dn0_eq m d)) $$ Hdn
  icases Hdn' with ⟨HP, -⟩
  imodintro
  isplitl [Hst]; · iexact Hst
  isplitl [HP]; · iexact HP
  isplitl [Hb] <;> iassumption

def fq (d : Dev nD) (s' : Phys nD τ sig (Elt F)) : Prop := s'.mem.mem (oLoc d) = Y m d ∧ s'.mem.mem (xLoc d) = m (xLoc d)

theorem hfin (d : Dev nD) (s' : Phys nD τ sig (Elt F)) : iprop(Post0 m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := Y m d)) $$ [HSI Ho]
  · isplitl [HSI] <;> iassumption
  icases H with %ho
  ipureintro; exact ⟨funext fun i => ho i (Finset.mem_univ i), funext fun i => hx i (Finset.mem_univ i)⟩

/-! ## The run, and the two frames -/

def QC : PUnit × MemSt nD τ sig (Elt F) → Prop :=
  fun r => (∀ c : Dev nD, r.2.mem (oLoc c) = Y m c ∧ r.2.mem (xLoc c) = m (xLoc c)) ∧ r.2.sem = fun _ => 0

/-- Every execution ends with the result decided from the input, the input unchanged and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q _ => match q with | 0 => scalarObl m)
    (fun q hq => match q with | 0 => nomatch hq)
    (fun q hq => match q with | 0 => nomatch hq)
    m ρ main (fun _ => iprop(emp)) (Post0 m) (u₀ (F := F)) (sep_elim_left.trans (hu₀ m)) (hmain m ρ) (fq m) (hfin m) (QC m) (fun _ h hz => ⟨h, hz⟩)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_kernel : Cert.quiescent_Kernel := fun m ρ _ =>
  (θ_run Cert.KernelIdeal.defs _ _).mono (fun _ h => ⟨fun c => (h.1 c).2, h.2⟩) (run_main (F := Bits) m ρ)

end Cert.Proof.Decide

end
-- ==== Proof.Trip.lean ====
/-
  One trip of the decoder's loop, read off its operations for any float values (hand-written, untrusted): the words it computes from
  the trip's number, and what it leaves in the two tables of messages. Where only the range of a message matters the
  mask and the position it is read at are left open (`∃`).
-/
module

public import proofs.«01_k».proof.Proof.Gen.ReferenceIdeal.Run

@[expose] public section

set_option maxRecDepth 100000

noncomputable section

namespace Cert.Proof.Trip

open Cert.ReferenceIdeal Cert.ReferenceIdeal.Gen Cert.ReferenceIdeal.Value
open Idealize.ShloMosaic Idealize.ShloMosaic.TcCoe Idealize.ShloMosaic.Tactic
open Idealize.ShloMosaic.StableHlo

variable {F : FTy → Type} [FloatOps F]

/-! ## The words -/

/-- The constant `c`, as a word of no axes. -/
abbrev kW (c : BitVec 32) : IVec S_ 32 := constantI S_ 32 c

/-- The bit false, as the called functions hold it. -/
abbrev noW : IVec S_ 1 := broadcastInDim S_ ![] bcast_S_S_ (constantI S_ 1 0#1)

/-- The divisor a remainder is taken by. -/
def safeW (c : IVec S_ 32) : IVec S_ 32 := select (cmpi .eq c (kW 0#32)) (kW 1#32) c

/-- `x % c` with the divisor's sign. -/
def remW (x c : IVec S_ 32) : IVec S_ 32 :=
  select (andi (cmpi .ne (cmpi .slt (Host.remsi x (safeW c)) (kW 0#32)) (cmpi .slt (safeW c) (kW 0#32))) (cmpi .ne (Host.remsi x (safeW c)) (kW 0#32)))
    (addi (Host.remsi x (safeW c)) (safeW c)) (Host.remsi x (safeW c))

/-- `x // c`, rounded down. -/
def fdivW (x c : IVec S_ 32) : IVec S_ 32 :=
  select (andi (cmpi .ne (cmpi .ne (signi x) (signi c)) noW) (cmpi .ne (cmpi .ne (Host.remsi x c) (kW 0#32)) noW))
    (subi (Host.divsi x c) (kW 1#32)) (Host.divsi x c)

/-- A position counted from the end where it is negative. -/
def wrapW (i n : IVec S_ 32) : IVec S_ 32 := select (cmpi .slt i (kW 0#32)) (addi i n) i

/-- The pair of positions an update is written at. -/
def pairW (i j : IVec S_ 32) : IVec S2 32 :=
  concatenate S2 0 [⟨S1, broadcastInDim S1 ![] bcast_S_S1 i⟩, ⟨S1, broadcastInDim S1 ![] bcast_S_S1 j⟩] concatenates_S1_S1_S2_d0

/-- The update's number within its half iteration, and whether the half is the variables'. -/
def tW (n : IVec S_ 32) : IVec S_ 32 := remW n (kW 512#32)
def phaseW (n : IVec S_ 32) : IVec S_ 1 := cmpi .eq (remW (fdivW n (kW 512#32)) (kW 2#32)) (kW 0#32)

/-! ## The body in three parts -/

/-- The words' stretches. -/
abbrev words (X : Valuation τ sig (Elt F)) : Valuation τ sig (Elt F) :=
  after while0Ops0_9 (after while0Ops0_8 (after while0Ops0_7 (after while0Ops0_6 (after while0Ops0_5 (after while0Ops0_4 (after while0Ops0_3
    (after while0Ops0_2 (after while0Ops0_1 (after while0Ops0 X)))))))))

/-- The variables' message. -/
abbrev varPart (X : Valuation τ sig (Elt F)) : Valuation τ sig (Elt F) :=
  after while0Ops0_13 (after while0Ops0_12 (after while0Ops0_11 (after while0Ops0_10 X)))

/-- The checks' message. -/
abbrev checkPart (X : Valuation τ sig (Elt F)) : Valuation τ sig (Elt F) :=
  after while0Ops0_21 (after while0Ops0_20 (after while0Ops0_19 (after while0Ops0_18 (after while0Ops0_17 (after while0Ops0_16 (after while0Ops0_15 (after while0Ops0_14 X)))))))

theorem afterL_body (X : Valuation τ sig (Elt F)) : afterL bodyI X = after while0Ops0_22 (checkPart (varPart (words X))) := rfl

variable (X : Valuation τ sig (Elt F))

theorem rem27 : after while0Ops0_1 (after while0Ops0 X) (Proc.devRef .tc main_while0b_v27) = tW (X (Proc.devRef .tc main_v4_3)) := by
  after_reads_simp; rfl

theorem div28 : after while0Ops0_3 (after while0Ops0_2 X) (Proc.devRef .tc main_while0b_v28) = fdivW (X (Proc.devRef .tc main_v4_3)) (kW 512#32) := by
  after_reads_simp; rfl

theorem eq30 : after while0Ops0_6 (after while0Ops0_5 (after while0Ops0_4 X)) (Proc.devRef .tc main_while0b_v30) =
    cmpi .eq (remW (X (Proc.devRef .tc main_while0b_v28)) (kW 2#32)) (kW 0#32) := by
  after_reads_simp; rfl

theorem next26 : after while0Ops0 X (Proc.devRef .tc main_while0b_v26) = addi (X (Proc.devRef .tc main_v4_3)) (kW 1#32) := by
  after_reads_simp

theorem div92 : after while0Ops0_15 (after while0Ops0_14 X) (Proc.devRef .tc main_while0b_v92) = fdivW (X (Proc.devRef .tc main_while0b_v27)) (kW 32#32) := by
  after_reads_simp; rfl

theorem rem93 : after while0Ops0_17 (after while0Ops0_16 X) (Proc.devRef .tc main_while0b_v93) = remW (X (Proc.devRef .tc main_while0b_v27)) (kW 32#32) := by
  after_reads_simp; rfl

/-! ## The variables' message -/

/-- The product of 32 values by halves. -/
def prod32 (x : FVec F S32 .f32) : FVec F S_ .f32 :=
  let x16 : FVec F S16 .f32 := mulf (extractStridedSlice S16 ![0] x slices_S32_S16_0) (extractStridedSlice S16 ![16] x slices_S32_S16_16)
  let x8 : FVec F S8 .f32 := mulf (extractStridedSlice S8 ![0] x16 slices_S16_S8_0) (extractStridedSlice S8 ![8] x16 slices_S16_S8_8)
  let x4 : FVec F S4 .f32 := mulf (extractStridedSlice S4 ![0] x8 slices_S8_S4_0) (extractStridedSlice S4 ![4] x8 slices_S8_S4_4)
  let x2 : FVec F S2 .f32 := mulf (extractStridedSlice S2 ![0] x4 slices_S4_S2_0) (extractStridedSlice S2 ![2] x4 slices_S4_S2_2)
  let x1 : FVec F S1 .f32 := mulf (extractStridedSlice S1 ![0] x2 slices_S2_S1_0) (extractStridedSlice S1 ![1] x2 slices_S2_S1_1)
  shapeCast S_ x1 shapeCasts_S1_S_

theorem var53 : after while0Ops0_10 X (Proc.devRef .tc main_while0b_v53) = Host.tanh (after while0Ops0_10 X (Proc.devRef .tc main_while0b_v52)) := by
  after_reads_simp

theorem one35 : after while0Ops0_10 X (Proc.devRef .tc main_while0b_cst_35) = constant S_ .f32 0x3F800000#32 := by
  after_reads_simp

theorem var54 : after while0Ops0_11 X (Proc.devRef .tc main_while0b_v54) =
    select (X (Proc.devRef .tc main_while0b_v41)) (X (Proc.devRef .tc main_while0b_v53))
      (broadcastInDim S32 ![] bcast_S_S32 (X (Proc.devRef .tc main_while0b_cst_35))) := by
  after_reads_simp; rfl

theorem var70 : after while0Ops0_12 X (Proc.devRef .tc main_while0b_v70) = prod32 (X (Proc.devRef .tc main_while0b_v54)) := by
  after_reads_simp; rfl

theorem var78 : after while0Ops0_12 X (Proc.devRef .tc main_while0b_v78) =
    mulf (Host.sign (after while0Ops0_12 X (Proc.devRef .tc main_while0b_v76))) (after while0Ops0_12 X (Proc.devRef .tc main_while0b_v70)) := by
  after_reads_simp

theorem var90 : after while0Ops0_12 X (Proc.devRef .tc main_while0b_v90) =
    Host.scatter scatter_S32x16_S2_S__n_01_01_0 (fun _ b => b) (X (Proc.devRef .tc main_v4_4)) (after while0Ops0_12 X (Proc.devRef .tc main_while0b_v89))
      (after while0Ops0_12 X (Proc.devRef .tc main_while0b_v78)) := by
  after_reads_simp; rfl

theorem var91 : after while0Ops0_13 X (Proc.devRef .tc main_while0b_v91) =
    select (broadcastInDim S32x16 ![] bcast_S_S32x16 (X (Proc.devRef .tc main_while0b_v30))) (X (Proc.devRef .tc main_while0b_v90))
      (X (Proc.devRef .tc main_v4_4)) := by
  after_reads_simp; rfl

/-! ## The checks' message -/

theorem check111 : ∃ ix : Fin 2 → Int, after while0Ops0_18 X (Proc.devRef .tc main_while0b_v111) =
    shapeCast S16 (Host.dynamicSlice S16x1 (X (Proc.devRef .tc main_v4_5) : FVec F S16x32 .f32) ix sliceFits_S16x32_S16x1) shapeCasts_S16x1_S16 := by
  apply Exists.intro
  after_reads_simp; rfl

theorem zero58 : after while0Ops0_18 X (Proc.devRef .tc main_while0b_cst_58) = constant S_ .f32 0x00000000#32 := by
  after_reads_simp

theorem check112 : after while0Ops0_19 X (Proc.devRef .tc main_while0b_v112) =
    select (X (Proc.devRef .tc main_while0b_v102)) (X (Proc.devRef .tc main_while0b_v111))
      (broadcastInDim S16 ![] bcast_S_S16 (X (Proc.devRef .tc main_while0b_cst_58))) := by
  after_reads_simp; rfl

theorem check123 : ∃ ix : Fin 2 → Int, after while0Ops0_20 X (Proc.devRef .tc main_while0b_v123) =
    shapeCast S_ (Host.dynamicSlice S1x1 (X (Proc.devRef .tc main_v4_4) : FVec F S32x16 .f32) ix sliceFits_S32x16_S1x1) shapeCasts_S1x1_S_ := by
  apply Exists.intro
  after_reads_simp; rfl

theorem check128 : after while0Ops0_20 X (Proc.devRef .tc main_while0b_v128) =
    mulf (constant S_ .f32 0x40000000#32) (Host.atan (Host.exp (mulf (constant S_ .f32 0x3F000000#32)
      (subf (Host.reduceAdd (X (Proc.devRef .tc main_while0b_v112)) (constant S_ .f32 0x00000000#32) reducesTo_S16_S_d0 h_S_)
        (after while0Ops0_20 X (Proc.devRef .tc main_while0b_v123)))))) := by
  after_reads_simp

theorem check139 : after while0Ops0_20 X (Proc.devRef .tc main_while0b_v139) =
    pairW (wrapW (X (Proc.devRef .tc main_while0b_v92)) (kW 16#32)) (wrapW (X (Proc.devRef .tc main_while0b_v93)) (kW 32#32)) := by
  after_results; rfl

theorem check140 : after while0Ops0_20 X (Proc.devRef .tc main_while0b_v140) =
    Host.scatter scatter_S16x32_S2_S__n_01_01_0 (fun _ b => b) (X (Proc.devRef .tc main_v4_5))
      (after while0Ops0_20 X (Proc.devRef .tc main_while0b_v139)) (after while0Ops0_20 X (Proc.devRef .tc main_while0b_v128)) := by
  after_reads_simp; rfl

theorem check141 : after while0Ops0_21 X (Proc.devRef .tc main_while0b_v141) =
    select (broadcastInDim S16x32 ![] bcast_S_S16x32 (X (Proc.devRef .tc main_while0b_v30))) (X (Proc.devRef .tc main_v4_5))
      (X (Proc.devRef .tc main_while0b_v140)) := by
  after_reads_simp; rfl

/-! ## The trip's end -/

theorem end3 : after while0Ops0_22 X (Proc.devRef .tc main_v4_3) = X (Proc.devRef .tc main_while0b_v26) := by
  after_reads_simp; rfl

theorem end4 : after while0Ops0_22 X (Proc.devRef .tc main_v4_4) = X (Proc.devRef .tc main_while0b_v91) := by
  after_reads_simp; rfl

theorem end5 : after while0Ops0_22 X (Proc.devRef .tc main_v4_5) = X (Proc.devRef .tc main_while0b_v141) := by
  after_reads_simp; rfl

/-! ## A trip

What a stretch does not write it keeps. -/

section Keep
variable {r : Ref sig .tc}

theorem keep0 (h : r ∉ while0Ops0_W) : after while0Ops0 X (Proc.devRef .tc r) = X (Proc.devRef .tc r) :=
  after_of_writes_sub while0Ops0 X while0Ops0_writes h

theorem keep1 (h : r ∉ while0Ops0_1_W) : after while0Ops0_1 X (Proc.devRef .tc r) = X (Proc.devRef .tc r) :=
  after_of_writes_sub while0Ops0_1 X while0Ops0_1_writes h

theorem keep2 (h : r ∉ while0Ops0_2_W) : after while0Ops0_2 X (Proc.devRef .tc r) = X (Proc.devRef .tc r) :=
  after_of_writes_sub while0Ops0_2 X while0Ops0_2_writes h

theorem keep3 (h : r ∉ while0Ops0_3_W) : after while0Ops0_3 X (Proc.devRef .tc r) = X (Proc.devRef .tc r) :=
  after_of_writes_sub while0Ops0_3 X while0Ops0_3_writes h

theorem keep4 (h : r ∉ while0Ops0_4_W) : after while0Ops0_4 X (Proc.devRef .tc r) = X (Proc.devRef .tc r) :=
  after_of_writes_sub while0Ops0_4 X while0Ops0_4_writes h

theorem keep5 (h : r ∉ while0Ops0_5_W) : after while0Ops0_5 X (Proc.devRef .tc r) = X (Proc.devRef .tc r) :=
  after_of_writes_sub while0Ops0_5 X while0Ops0_5_writes h

theorem keep6 (h : r ∉ while0Ops0_6_W) : after while0Ops0_6 X (Proc.devRef .tc r) = X (Proc.devRef .tc r) :=
  after_of_writes_sub while0Ops0_6 X while0Ops0_6_writes h

theorem keep7 (h : r ∉ while0Ops0_7_W) : after while0Ops0_7 X (Proc.devRef .tc r) = X (Proc.devRef .tc r) :=
  after_of_writes_sub while0Ops0_7 X while0Ops0_7_writes h

theorem keep8 (h : r ∉ while0Ops0_8_W) : after while0Ops0_8 X (Proc.devRef .tc r) = X (Proc.devRef .tc r) :=
  after_of_writes_sub while0Ops0_8 X while0Ops0_8_writes h

theorem keep9 (h : r ∉ while0Ops0_9_W) : after while0Ops0_9 X (Proc.devRef .tc r) = X (Proc.devRef .tc r) :=
  after_of_writes_sub while0Ops0_9 X while0Ops0_9_writes h

theorem keep10 (h : r ∉ while0Ops0_10_W) : after while0Ops0_10 X (Proc.devRef .tc r) = X (Proc.devRef .tc r) :=
  after_of_writes_sub while0Ops0_10 X while0Ops0_10_writes h

theorem keep11 (h : r ∉ while0Ops0_11_W) : after while0Ops0_11 X (Proc.devRef .tc r) = X (Proc.devRef .tc r) :=
  after_of_writes_sub while0Ops0_11 X while0Ops0_11_writes h

theorem keep12 (h : r ∉ while0Ops0_12_W) : after while0Ops0_12 X (Proc.devRef .tc r) = X (Proc.devRef .tc r) :=
  after_of_writes_sub while0Ops0_12 X while0Ops0_12_writes h

theorem keep13 (h : r ∉ while0Ops0_13_W) : after while0Ops0_13 X (Proc.devRef .tc r) = X (Proc.devRef .tc r) :=
  after_of_writes_sub while0Ops0_13 X while0Ops0_13_writes h

theorem keep14 (h : r ∉ while0Ops0_14_W) : after while0Ops0_14 X (Proc.devRef .tc r) = X (Proc.devRef .tc r) :=
  after_of_writes_sub while0Ops0_14 X while0Ops0_14_writes h

theorem keep15 (h : r ∉ while0Ops0_15_W) : after while0Ops0_15 X (Proc.devRef .tc r) = X (Proc.devRef .tc r) :=
  after_of_writes_sub while0Ops0_15 X while0Ops0_15_writes h

theorem keep16 (h : r ∉ while0Ops0_16_W) : after while0Ops0_16 X (Proc.devRef .tc r) = X (Proc.devRef .tc r) :=
  after_of_writes_sub while0Ops0_16 X while0Ops0_16_writes h

theorem keep17 (h : r ∉ while0Ops0_17_W) : after while0Ops0_17 X (Proc.devRef .tc r) = X (Proc.devRef .tc r) :=
  after_of_writes_sub while0Ops0_17 X while0Ops0_17_writes h

theorem keep18 (h : r ∉ while0Ops0_18_W) : after while0Ops0_18 X (Proc.devRef .tc r) = X (Proc.devRef .tc r) :=
  after_of_writes_sub while0Ops0_18 X while0Ops0_18_writes h

theorem keep19 (h : r ∉ while0Ops0_19_W) : after while0Ops0_19 X (Proc.devRef .tc r) = X (Proc.devRef .tc r) :=
  after_of_writes_sub while0Ops0_19 X while0Ops0_19_writes h

theorem keep20 (h : r ∉ while0Ops0_20_W) : after while0Ops0_20 X (Proc.devRef .tc r) = X (Proc.devRef .tc r) :=
  after_of_writes_sub while0Ops0_20 X while0Ops0_20_writes h

theorem keep21 (h : r ∉ while0Ops0_21_W) : after while0Ops0_21 X (Proc.devRef .tc r) = X (Proc.devRef .tc r) :=
  after_of_writes_sub while0Ops0_21 X while0Ops0_21_writes h

end Keep

theorem phase_words : words X (Proc.devRef .tc main_while0b_v30) = phaseW (X (Proc.devRef .tc main_v4_3)) := by
  unfold words
  rw [keep9 _ (r := main_while0b_v30) (by decide +kernel), keep8 _ (r := main_while0b_v30) (by decide +kernel),
    keep7 _ (r := main_while0b_v30) (by decide +kernel), eq30, div28, keep1 _ (r := main_v4_3) (by decide +kernel),
    keep0 _ (r := main_v4_3) (by decide +kernel)]
  rfl

theorem t_words : words X (Proc.devRef .tc main_while0b_v27) = tW (X (Proc.devRef .tc main_v4_3)) := by
  unfold words
  rw [keep9 _ (r := main_while0b_v27) (by decide +kernel), keep8 _ (r := main_while0b_v27) (by decide +kernel),
    keep7 _ (r := main_while0b_v27) (by decide +kernel), keep6 _ (r := main_while0b_v27) (by decide +kernel),
    keep5 _ (r := main_while0b_v27) (by decide +kernel), keep4 _ (r := main_while0b_v27) (by decide +kernel),
    keep3 _ (r := main_while0b_v27) (by decide +kernel), keep2 _ (r := main_while0b_v27) (by decide +kernel), rem27]

theorem phase_var : varPart X (Proc.devRef .tc main_while0b_v30) = X (Proc.devRef .tc main_while0b_v30) := by
  unfold varPart
  rw [keep13 _ (r := main_while0b_v30) (by decide +kernel), keep12 _ (r := main_while0b_v30) (by decide +kernel),
    keep11 _ (r := main_while0b_v30) (by decide +kernel), keep10 _ (r := main_while0b_v30) (by decide +kernel)]

theorem t_var : varPart X (Proc.devRef .tc main_while0b_v27) = X (Proc.devRef .tc main_while0b_v27) := by
  unfold varPart
  rw [keep13 _ (r := main_while0b_v27) (by decide +kernel), keep12 _ (r := main_while0b_v27) (by decide +kernel),
    keep11 _ (r := main_while0b_v27) (by decide +kernel), keep10 _ (r := main_while0b_v27) (by decide +kernel)]

theorem v2c_words : words X (Proc.devRef .tc main_v4_4) = X (Proc.devRef .tc main_v4_4) := by
  unfold words
  rw [keep9 _ (r := main_v4_4) (by decide +kernel), keep8 _ (r := main_v4_4) (by decide +kernel), keep7 _ (r := main_v4_4) (by decide +kernel),
    keep6 _ (r := main_v4_4) (by decide +kernel), keep5 _ (r := main_v4_4) (by decide +kernel), keep4 _ (r := main_v4_4) (by decide +kernel),
    keep3 _ (r := main_v4_4) (by decide +kernel), keep2 _ (r := main_v4_4) (by decide +kernel), keep1 _ (r := main_v4_4) (by decide +kernel),
    keep0 _ (r := main_v4_4) (by decide +kernel)]

theorem v2c_var : varPart X (Proc.devRef .tc main_v4_4) = X (Proc.devRef .tc main_v4_4) := by
  unfold varPart
  rw [keep13 _ (r := main_v4_4) (by decide +kernel), keep12 _ (r := main_v4_4) (by decide +kernel), keep11 _ (r := main_v4_4) (by decide +kernel),
    keep10 _ (r := main_v4_4) (by decide +kernel)]

theorem c2v_words : words X (Proc.devRef .tc main_v4_5) = X (Proc.devRef .tc main_v4_5) := by
  unfold words
  rw [keep9 _ (r := main_v4_5) (by decide +kernel), keep8 _ (r := main_v4_5) (by decide +kernel), keep7 _ (r := main_v4_5) (by decide +kernel),
    keep6 _ (r := main_v4_5) (by decide +kernel), keep5 _ (r := main_v4_5) (by decide +kernel), keep4 _ (r := main_v4_5) (by decide +kernel),
    keep3 _ (r := main_v4_5) (by decide +kernel), keep2 _ (r := main_v4_5) (by decide +kernel), keep1 _ (r := main_v4_5) (by decide +kernel),
    keep0 _ (r := main_v4_5) (by decide +kernel)]

theorem c2v_var : varPart X (Proc.devRef .tc main_v4_5) = X (Proc.devRef .tc main_v4_5) := by
  unfold varPart
  rw [keep13 _ (r := main_v4_5) (by decide +kernel), keep12 _ (r := main_v4_5) (by decide +kernel), keep11 _ (r := main_v4_5) (by decide +kernel),
    keep10 _ (r := main_v4_5) (by decide +kernel)]

/-- The trip's number goes up by one. -/
theorem body3 : afterL bodyI X (Proc.devRef .tc main_v4_3) = addi (X (Proc.devRef .tc main_v4_3)) (kW 1#32) := by
  rw [afterL_body]; unfold checkPart varPart words
  rw [end3, keep21 _ (r := main_while0b_v26) (by decide +kernel), keep20 _ (r := main_while0b_v26) (by decide +kernel),
    keep19 _ (r := main_while0b_v26) (by decide +kernel), keep18 _ (r := main_while0b_v26) (by decide +kernel),
    keep17 _ (r := main_while0b_v26) (by decide +kernel), keep16 _ (r := main_while0b_v26) (by decide +kernel),
    keep15 _ (r := main_while0b_v26) (by decide +kernel), keep14 _ (r := main_while0b_v26) (by decide +kernel),
    keep13 _ (r := main_while0b_v26) (by decide +kernel), keep12 _ (r := main_while0b_v26) (by decide +kernel),
    keep11 _ (r := main_while0b_v26) (by decide +kernel), keep10 _ (r := main_while0b_v26) (by decide +kernel),
    keep9 _ (r := main_while0b_v26) (by decide +kernel), keep8 _ (r := main_while0b_v26) (by decide +kernel),
    keep7 _ (r := main_while0b_v26) (by decide +kernel), keep6 _ (r := main_while0b_v26) (by decide +kernel),
    keep5 _ (r := main_while0b_v26) (by decide +kernel), keep4 _ (r := main_while0b_v26) (by decide +kernel),
    keep3 _ (r := main_while0b_v26) (by decide +kernel), keep2 _ (r := main_while0b_v26) (by decide +kernel),
    keep1 _ (r := main_while0b_v26) (by decide +kernel), next26]

/-- The variables' messages after the trip: in the variables' half one position holds a new message, a sign times a
    product of hyperbolic tangents and ones. -/
theorem body4 : ∃ (mask : IVec S32 1) (z : FVec F S32 .f32) (a : FVec F S_ .f32) (idx : IVec S2 32),
    afterL bodyI X (Proc.devRef .tc main_v4_4) =
      select (broadcastInDim S32x16 ![] bcast_S_S32x16 (phaseW (X (Proc.devRef .tc main_v4_3))))
        (Host.scatter scatter_S32x16_S2_S__n_01_01_0 (fun _ b => b) (X (Proc.devRef .tc main_v4_4)) idx
          (mulf (Host.sign a) (prod32 (select mask (Host.tanh z) (broadcastInDim S32 ![] bcast_S_S32 (constant S_ .f32 0x3F800000#32))))))
        (X (Proc.devRef .tc main_v4_4)) := by
  rw [afterL_body]; unfold checkPart
  rw [end4, keep21 _ (r := main_while0b_v91) (by decide +kernel), keep20 _ (r := main_while0b_v91) (by decide +kernel),
    keep19 _ (r := main_while0b_v91) (by decide +kernel), keep18 _ (r := main_while0b_v91) (by decide +kernel),
    keep17 _ (r := main_while0b_v91) (by decide +kernel), keep16 _ (r := main_while0b_v91) (by decide +kernel),
    keep15 _ (r := main_while0b_v91) (by decide +kernel), keep14 _ (r := main_while0b_v91) (by decide +kernel)]; unfold varPart
  rw [var91, var90, var78, var70,
    var54, var53, one35, keep12 _ (r := main_while0b_v30) (by decide +kernel), keep11 _ (r := main_while0b_v30) (by decide +kernel),
    keep10 _ (r := main_while0b_v30) (by decide +kernel), phase_words, keep12 _ (r := main_v4_4) (by decide +kernel),
    keep11 _ (r := main_v4_4) (by decide +kernel), keep10 _ (r := main_v4_4) (by decide +kernel), v2c_words]
  exact ⟨_, _, _, _, rfl⟩

/-- The checks' messages after the trip: in the checks' half the position of the trip holds a new message, twice the angle
    whose tangent is an exponential. -/
theorem body5 : ∃ (mask : IVec S16 1) (ix jx : Fin 2 → Int),
    afterL bodyI X (Proc.devRef .tc main_v4_5) =
      select (broadcastInDim S16x32 ![] bcast_S_S16x32 (phaseW (X (Proc.devRef .tc main_v4_3)))) (X (Proc.devRef .tc main_v4_5))
        (Host.scatter scatter_S16x32_S2_S__n_01_01_0 (fun _ b => b) (X (Proc.devRef .tc main_v4_5))
          (pairW (wrapW (fdivW (tW (X (Proc.devRef .tc main_v4_3))) (kW 32#32)) (kW 16#32)) (wrapW (remW (tW (X (Proc.devRef .tc main_v4_3))) (kW 32#32)) (kW 32#32)))
          (mulf (constant S_ .f32 0x40000000#32) (Host.atan (Host.exp (mulf (constant S_ .f32 0x3F000000#32)
            (subf (Host.reduceAdd (select mask
                (shapeCast S16 (Host.dynamicSlice S16x1 (X (Proc.devRef .tc main_v4_5) : FVec F S16x32 .f32) ix sliceFits_S16x32_S16x1) shapeCasts_S16x1_S16)
                (broadcastInDim S16 ![] bcast_S_S16 (constant S_ .f32 0x00000000#32)))
              (constant S_ .f32 0x00000000#32) reducesTo_S16_S_d0 h_S_)
              (shapeCast S_ (Host.dynamicSlice S1x1 (X (Proc.devRef .tc main_v4_4) : FVec F S32x16 .f32) jx sliceFits_S32x16_S1x1) shapeCasts_S1x1_S_))))))) := by
  obtain ⟨ix, hix⟩ := check111 (after while0Ops0_17 (after while0Ops0_16 (after while0Ops0_15 (after while0Ops0_14 (varPart (words X))))))
  obtain ⟨jx, hjx⟩ := check123 (after while0Ops0_19 (after while0Ops0_18 (after while0Ops0_17 (after while0Ops0_16 (after while0Ops0_15
    (after while0Ops0_14 (varPart (words X))))))))
  rw [afterL_body]; unfold checkPart
  rw [end5, check141, check140, check139, check128, check112, zero58, hix, hjx]
  rw [keep19 _ (r := main_v4_4) (by decide +kernel), keep18 _ (r := main_v4_4) (by decide +kernel), keep17 _ (r := main_v4_4) (by decide +kernel),
    keep16 _ (r := main_v4_4) (by decide +kernel), keep15 _ (r := main_v4_4) (by decide +kernel), keep14 _ (r := main_v4_4) (by decide +kernel),
    v2c_var, v2c_words]
  rw [keep20 _ (r := main_v4_5) (by decide +kernel), keep20 _ (r := main_while0b_v30) (by decide +kernel),
    keep19 _ (r := main_v4_5) (by decide +kernel), keep18 _ (r := main_v4_5) (by decide +kernel), keep17 _ (r := main_v4_5) (by decide +kernel),
    keep16 _ (r := main_v4_5) (by decide +kernel), keep15 _ (r := main_v4_5) (by decide +kernel), keep14 _ (r := main_v4_5) (by decide +kernel),
    c2v_var, c2v_words, keep19 _ (r := main_while0b_v30) (by decide +kernel), keep18 _ (r := main_while0b_v30) (by decide +kernel),
    keep17 _ (r := main_while0b_v30) (by decide +kernel), keep16 _ (r := main_while0b_v30) (by decide +kernel),
    keep15 _ (r := main_while0b_v30) (by decide +kernel), keep14 _ (r := main_while0b_v30) (by decide +kernel), phase_var, phase_words]
  rw [keep19 _ (r := main_while0b_v92) (by decide +kernel), keep18 _ (r := main_while0b_v92) (by decide +kernel),
    keep17 _ (r := main_while0b_v92) (by decide +kernel), keep16 _ (r := main_while0b_v92) (by decide +kernel),
    keep19 _ (r := main_while0b_v93) (by decide +kernel), keep18 _ (r := main_while0b_v93) (by decide +kernel), rem93, div92,
    keep15 _ (r := main_while0b_v27) (by decide +kernel), keep14 _ (r := main_while0b_v27) (by decide +kernel), t_var, t_words]
  exact ⟨_, _, _, rfl⟩

end Cert.Proof.Trip

end
-- ==== Proof.Range.lean ====
/-
  The extended reals' side of the decoder: which messages stay bounded, which are positive, and what a positive product
  does to a sign (hand-written, untrusted).
-/
module

public import proofs.«01_k».proof.Proof.Trip
public import Idealize.ShloMosaic.Lib.IdealHost
public import Idealize.ShloMosaic.Lib.Routing.OpsPair
public import Idealize.ShloMosaic.Lib.Routing.OpsSet

@[expose] public section

set_option maxRecDepth 100000

noncomputable section

namespace Cert.Proof.Range

open Cert.ReferenceIdeal Cert.ReferenceIdeal.Gen
open Idealize.ShloMosaic
open Cert.Proof.Trip

/-! ## Constants -/

theorem half_eq : Ideal.ofBits .f32 0x3F000000#32 = (((1 : ℝ) / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem half_pos : 0 < Ideal.ofBits .f32 0x3F000000#32 := by
  rw [half_eq]; exact EReal.coe_pos.2 (by norm_num)

theorem two_pos' : 0 < Ideal.ofBits .f32 0x40000000#32 := by
  rw [two_eq]; exact EReal.coe_pos.2 (by norm_num)

/-! ## Values between minus one and one -/

/-- A value between minus one and one. -/
def Small (x : EReal) : Prop := ∃ r : ℝ, x = (r : EReal) ∧ |r| ≤ 1

theorem small_mul {x y : EReal} (hx : Small x) (hy : Small y) : Small (x * y) := by
  obtain ⟨a, rfl, ha⟩ := hx
  obtain ⟨b, rfl, hb⟩ := hy
  refine ⟨a * b, (EReal.coe_mul a b).symm, ?_⟩
  rw [abs_mul]
  exact mul_le_one₀ ha (abs_nonneg b) hb

theorem small_one : Small 1 := ⟨1, rfl, by norm_num⟩

theorem small_neg_one : Small (-1) := ⟨-1, by rw [EReal.coe_neg]; rfl, by norm_num⟩

theorem small_tanh (x : EReal) : Small (Ideal.tanh x) := by
  induction x with
  | bot => exact small_neg_one
  | top => exact small_one
  | coe r =>
    refine ⟨Real.tanh r, rfl, abs_le.2 ⟨?_, ?_⟩⟩
    · rw [Real.tanh_eq_sinh_div_cosh, le_div_iff₀ (Real.cosh_pos r)]
      have h := Real.sinh_lt_cosh (-r)
      rw [Real.sinh_neg, Real.cosh_neg] at h
      linarith
    · rw [Real.tanh_eq_sinh_div_cosh, div_le_one (Real.cosh_pos r)]
      exact (Real.sinh_lt_cosh r).le

theorem small_sign (x : EReal) : Small (Ideal.sign x) := by
  induction x with
  | bot => exact small_neg_one
  | top => exact small_one
  | coe r =>
    refine ⟨_, rfl, ?_⟩
    rcases lt_trichotomy r 0 with h | h | h
    · rw [sign_neg h]; norm_num
    · rw [h, sign_zero]; norm_num
    · rw [sign_pos h]; norm_num

theorem small_ne_top {x : EReal} (h : Small x) : x ≠ ⊤ := by
  obtain ⟨r, rfl, -⟩ := h
  exact EReal.coe_ne_top r

/-! ## Positive values -/

theorem tanh_pos {x : EReal} (h : 0 < x) : 0 < Ideal.tanh x := by
  induction x with
  | bot => exact absurd h (by simp)
  | top => exact one_pos
  | coe r =>
    refine EReal.coe_pos.2 ?_
    rw [Real.tanh_eq_sinh_div_cosh]
    exact div_pos (Real.sinh_pos_iff.2 (EReal.coe_pos.1 h)) (Real.cosh_pos r)

theorem exp_pos {x : EReal} (h : x ≠ ⊥) : 0 < Ideal.exp x := by
  induction x with
  | bot => exact absurd rfl h
  | top => exact EReal.zero_lt_top
  | coe r => exact EReal.coe_pos.2 (Real.exp_pos r)

theorem atan_pos {x : EReal} (h : 0 < x) : 0 < Ideal.atan x := by
  induction x with
  | bot => exact absurd h (by simp)
  | top => exact EReal.coe_pos.2 (by have := Real.pi_pos; positivity)
  | coe r => exact EReal.coe_pos.2 (Real.arctan_pos.2 (EReal.coe_pos.1 h))

/-- Half of a value that is not minus infinity is not minus infinity. -/
theorem half_ne_bot {x : EReal} (h : x ≠ ⊥) : Ideal.ofBits .f32 0x3F000000#32 * x ≠ ⊥ := by
  rw [half_eq]
  induction x with
  | bot => exact absurd rfl h
  | top => rw [EReal.coe_mul_top_of_pos (by norm_num)]; exact top_ne_bot
  | coe r => rw [← EReal.coe_mul]; exact EReal.coe_ne_bot _

/-- A check's new message is positive: what it sums is not negative and what it takes away is not infinity. -/
theorem message_pos {s w : EReal} (hs : 0 ≤ s) (hw : w ≠ ⊤) :
    0 < Ideal.ofBits .f32 0x40000000#32 * Ideal.atan (Ideal.exp (Ideal.ofBits .f32 0x3F000000#32 * (s - w))) := by
  refine EReal.mul_pos two_pos' (atan_pos (exp_pos (half_ne_bot ?_)))
  rw [sub_eq_add_neg]
  intro h
  rcases EReal.add_eq_bot_iff.1 h with h | h
  · rw [h] at hs; exact absurd hs (by simp)
  · exact hw (EReal.neg_eq_bot_iff.1 h)

/-- Multiplying a sign by a positive value leaves whether it is positive. -/
theorem sign_mul_pos_iff {x p : EReal} (hp : 0 < p) : 0 < Ideal.sign x * p ↔ 0 < x := by
  have hneg : ¬ 0 < (-1 : EReal) * p := by
    rw [neg_mul, one_mul, EReal.neg_pos]
    exact not_lt.2 hp.le
  induction x with
  | bot => exact ⟨fun h => absurd h hneg, fun h => absurd h (by simp)⟩
  | top => exact ⟨fun _ => EReal.zero_lt_top, fun _ => by show 0 < (1 : EReal) * p; rwa [one_mul]⟩
  | coe r =>
    rw [EReal.coe_pos]
    show 0 < ((SignType.sign r : ℝ) : EReal) * p ↔ _
    rcases lt_trichotomy r 0 with h | h | h
    · rw [sign_neg h]
      refine ⟨fun q => absurd q ?_, fun q => absurd q h.not_gt⟩
      simpa using hneg
    · rw [h, sign_zero]; simp
    · rw [sign_pos h]; simpa using ⟨fun _ => h, fun _ => hp⟩

/-! ## The tables after a trip -/

/-- What holds of a table's element and of the update holds of the element after the update. -/
theorem scatter_all {s si u : Shape} (P : EReal → Prop) (d : ScatterDims s si u) (x : s.Idx → EReal) (idx : IVec si 32) (upd : u.Idx → EReal)
    (hu : ∀ k, P (upd k)) (i : s.Idx) (hx : P (x i)) : P (Host.scatter d (fun _ b => b) x idx upd i) := by
  rw [Routing.scatter_at]
  generalize List.finRange u.numel = l
  generalize hv : x i = v
  have hP : P v := hv ▸ hx
  clear hv
  induction l generalizing v with
  | nil => exact hP
  | cons n l ih =>
    rw [List.foldl_cons]
    refine ih _ ?_
    split
    · exact hu _
    · exact hP

/-- A selection's elements are its operands'. -/
theorem select_all {s : Shape} (P : EReal → Prop) (c : IVec s 1) (x y : s.Idx → EReal) (i : s.Idx) (hx : P (x i)) (hy : P (y i)) :
    P (select c x y i) := by
  show P (if c i = 1 then x i else y i)
  split
  · exact hx
  · exact hy

theorem small_prod32 (x : FVec Ideal S32 .f32) (h : ∀ i, Small (x i)) (i : S_.Idx) : Small (prod32 x i) :=
  small_mul (small_mul (small_mul (small_mul (small_mul (h _) (h _)) (small_mul (h _) (h _))) (small_mul (small_mul (h _) (h _)) (small_mul (h _) (h _))))
    (small_mul (small_mul (small_mul (h _) (h _)) (small_mul (h _) (h _))) (small_mul (small_mul (h _) (h _)) (small_mul (h _) (h _)))))
    (small_mul (small_mul (small_mul (small_mul (h _) (h _)) (small_mul (h _) (h _))) (small_mul (small_mul (h _) (h _)) (small_mul (h _) (h _))))
    (small_mul (small_mul (small_mul (h _) (h _)) (small_mul (h _) (h _))) (small_mul (small_mul (h _) (h _)) (small_mul (h _) (h _)))))

/-- A sum of what is not negative, from zero, is not negative. -/
theorem sum_nonneg {s : Shape} {axes : List (Fin s.rank)} {t u : Shape} (x : FVec Ideal s .f32) (z : FVec Ideal u .f32) (h : s.ReducesTo axes t) (hu : 0 < u.numel)
    (hz : ∀ i, (0 : EReal) ≤ z i) (hx : ∀ i, (0 : EReal) ≤ x i) (j : t.Idx) : (0 : EReal) ≤ Host.reduceAdd x z h hu j := by
  show (0 : EReal) ≤ z _ + ∑ i ∈ Finset.univ.filter (fun i => h.drop i = j), x i
  exact add_nonneg (hz _) (Finset.sum_nonneg fun i _ => hx i)

end Cert.Proof.Range

end
-- ==== Proof.Words.lean ====
/-
  The words of the trips that write the checks' messages for the first time, trips 512 up to 1023: the half is the checks', and
  trip `512 + p` writes the message at row `p / 32` and column `p % 32` (hand-written, untrusted).
-/
module

public import proofs.«01_k».proof.Proof.Trip
public import Idealize.ShloMosaic.Lib.Routing.OpsPair
public import Idealize.ShloMosaic.Lib.Routing.OpsSet
public import Idealize.ShloMosaic.Lib.Pointwise.SelectCore

@[expose] public section

set_option maxRecDepth 100000

noncomputable section

namespace Cert.Proof.Words

open Cert.ReferenceIdeal Cert.ReferenceIdeal.Gen
open Idealize.ShloMosaic
open Cert.Proof.Trip

/-- The only position of a word of no axes. -/
abbrev pt : S_.Idx := Shape.Idx.first h_S_

theorem eq_pt (i : S_.Idx) : i = pt := funext fun a => a.elim0

/-- A trip's number as the loop counts it. -/
def num (k : Nat) : IVec S_ 32 := fun _ => BitVec.ofNat 32 k

theorem num_succ (k : Nat) : addi (num k) (kW 1#32) = num (k + 1) := by
  funext i
  show BitVec.ofNat 32 k + 1#32 = BitVec.ofNat 32 (k + 1)
  rw [BitVec.ofNat_add]

theorem phase_first : ∀ p : Fin 512, phaseW (num (512 + p.val)) pt = 0#1 := by decide +kernel

theorem row_first : ∀ p : Fin 512, (wrapW (fdivW (tW (num (512 + p.val))) (kW 32#32)) (kW 16#32) pt).toInt = (p.val / 32 : Nat) := by decide +kernel

theorem col_first : ∀ p : Fin 512, (wrapW (remW (tW (num (512 + p.val))) (kW 32#32)) (kW 32#32) pt).toInt = (p.val % 32 : Nat) := by decide +kernel

theorem pair_zero (i j : IVec S_ 32) (b : S2.Idx) (hb : (b 0).val = 0) : pairW i j b = i pt := by
  unfold pairW
  rw [concatenate_pair_apply, dif_pos (by show (b 0).val < 1; omega)]
  exact congrArg i (eq_pt _)

theorem pair_one (i j : IVec S_ 32) (b : S2.Idx) (hb : (b 0).val = 1) : pairW i j b = j pt := by
  unfold pairW
  rw [concatenate_pair_apply, dif_neg (by show ¬ (b 0).val < 1; omega)]
  exact congrArg j (eq_pt _)

/-- The one update lands where the two words say. -/
theorem lands (i j : IVec S_ 32) (k : S_.Idx) (q : S16x32.Idx) (hi : (i pt).toInt = ((q 0).val : Int)) (hj : (j pt).toInt = ((q 1).val : Int)) :
    scatter_S16x32_S2_S__n_01_01_0.resultIdx? k (pairW i j) = some q := by
  refine (Routing.resultIdx?_eq_some _ _ _ _).2 fun a => ?_
  match a with
  | ⟨0, _⟩ =>
    show scatter_S16x32_S2_S__n_01_01_0.start k (pairW i j) 0 + 0 = _
    rw [show scatter_S16x32_S2_S__n_01_01_0.start k (pairW i j) 0 = (i pt).toInt from congrArg BitVec.toInt (pair_zero i j _ rfl), hi]
    exact Int.add_zero _
  | ⟨1, _⟩ =>
    show scatter_S16x32_S2_S__n_01_01_0.start k (pairW i j) 1 + 0 = _
    rw [show scatter_S16x32_S2_S__n_01_01_0.start k (pairW i j) 1 = (j pt).toInt from congrArg BitVec.toInt (pair_one i j _ rfl), hj]
    exact Int.add_zero _

end Cert.Proof.Words

end
-- ==== Proof.Loop.lean ====
/-
  What the decoder's loop keeps (hand-written, untrusted): its trips count up, no variable's message is infinity, no check's
  message is negative, and every check's message a trip has written is positive.
-/
module

public import proofs.«01_k».proof.Proof.Range
public import proofs.«01_k».proof.Proof.Words

@[expose] public section

set_option maxRecDepth 100000

noncomputable section

namespace Cert.Proof.Loop

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Trip Cert.Proof.Words Cert.Proof.Range

/-- The trip's number, the variables' messages and the checks' messages of a state. -/
abbrev numOf (X : Valuation τ sig (Elt Ideal)) : IVec S_ 32 := X (Proc.devRef .tc main_v4_3)
abbrev v2c (X : Valuation τ sig (Elt Ideal)) : FVec Ideal S32x16 .f32 := X (Proc.devRef .tc main_v4_4)
abbrev c2v (X : Valuation τ sig (Elt Ideal)) : FVec Ideal S16x32 .f32 := X (Proc.devRef .tc main_v4_5)

/-- What holds after `k` trips. -/
structure Inv (X : Valuation τ sig (Elt Ideal)) (k : Nat) : Prop where
  num : numOf X = num k
  small : ∀ i, Small (v2c X i)
  nonneg : ∀ i, (0 : EReal) ≤ c2v X i
  pos : ∀ q : S16x32.Idx, 512 + ((q 0).val * 32 + (q 1).val) < k → (0 : EReal) < c2v X q

/-- A variable's new message is between minus one and one. -/
theorem small_message (mask : IVec S32 1) (z : FVec Ideal S32 .f32) (a : FVec Ideal S_ .f32) (k : S_.Idx) :
    Small (mulf (Host.sign a) (prod32 (select mask (Host.tanh z) (broadcastInDim S32 ![] bcast_S_S32 (constant S_ .f32 0x3F800000#32)))) k) := by
  refine small_mul (small_sign (a k)) (small_prod32 _ (fun i => select_all Small mask _ _ i (small_tanh (z i)) ?_) k)
  show Small (Ideal.ofBits .f32 0x3F800000#32)
  rw [Ideal.ofBits_one_f32]
  exact small_one

variable {X : Valuation τ sig (Elt Ideal)} {k : Nat}

/-- A check's new message is positive. -/
theorem pos_message (h : Inv X k) (mask : IVec S16 1) (ix jx : Fin 2 → Int) (u : S_.Idx) :
    (0 : EReal) < mulf (constant S_ .f32 0x40000000#32) (Host.atan (Host.exp (mulf (constant S_ .f32 0x3F000000#32)
      (subf (Host.reduceAdd (select mask (shapeCast S16 (Host.dynamicSlice S16x1 (c2v X) ix sliceFits_S16x32_S16x1) shapeCasts_S16x1_S16)
          (broadcastInDim S16 ![] bcast_S_S16 (constant S_ .f32 0x00000000#32))) (constant S_ .f32 0x00000000#32) reducesTo_S16_S_d0 h_S_)
        (shapeCast S_ (Host.dynamicSlice S1x1 (v2c X) jx sliceFits_S32x16_S1x1) shapeCasts_S1x1_S_))))) u := by
  have hzero : (0 : EReal) ≤ Ideal.ofBits .f32 0x00000000#32 := by rw [Ideal.ofBits_zero_f32]
  refine message_pos (sum_nonneg _ _ _ _ (fun _ => hzero) (fun i => select_all (fun x => 0 ≤ x) mask _ _ i (h.nonneg _) hzero) u) (small_ne_top (h.small _))

theorem num_step (h : Inv X k) : numOf (afterL bodyI X) = num (k + 1) :=
  (body3 X).trans ((congrArg (fun n => addi n (kW 1#32)) h.num).trans (num_succ k))

theorem small_step (h : Inv X k) (i : S32x16.Idx) : Small (v2c (afterL bodyI X) i) := by
  obtain ⟨mask, z, a, idx, e⟩ := body4 X
  rw [show v2c (afterL bodyI X) = _ from e]
  exact select_all Small _ _ _ i (scatter_all Small _ _ _ _ (fun u => small_message mask z a u) i (h.small i)) (h.small i)

/-- An element keeps being not negative, or positive. -/
theorem keeps_step (P : EReal → Prop) (hP : ∀ x : EReal, 0 < x → P x) (h : Inv X k) (q : S16x32.Idx) (hq : P (c2v X q)) : P (c2v (afterL bodyI X) q) := by
  obtain ⟨mask, ix, jx, e⟩ := body5 X
  rw [show c2v (afterL bodyI X) = _ from e]
  exact select_all P _ _ _ q hq (scatter_all P _ _ _ _ (fun u => hP _ (pos_message h mask ix jx u)) q hq)

/-- Trip `512 + p` makes the message at row `p / 32` and column `p % 32` positive. -/
theorem hit_step (q : S16x32.Idx) (h : Inv X (512 + ((q 0).val * 32 + (q 1).val))) : (0 : EReal) < c2v (afterL bodyI X) q := by
  have h0 : (q 0).val < 16 := (q 0).isLt
  have h1 : (q 1).val < 32 := (q 1).isLt
  let p : Fin 512 := ⟨(q 0).val * 32 + (q 1).val, by omega⟩
  obtain ⟨mask, ix, jx, e⟩ := body5 X
  rw [show c2v (afterL bodyI X) = _ from e]
  have hn : (X (Proc.devRef .tc main_v4_3) : IVec S_ 32) = num (512 + p.val) := h.num
  have hph : broadcastInDim S16x32 ![] bcast_S_S16x32 (phaseW (X (Proc.devRef .tc main_v4_3))) q = 0#1 := by
    rw [hn]
    exact (congrArg (phaseW (num (512 + p.val))) (eq_pt _)).trans (phase_first p)
  show (0 : EReal) < if broadcastInDim S16x32 ![] bcast_S_S16x32 (phaseW (X (Proc.devRef .tc main_v4_3))) q = 1 then _ else _
  rw [if_neg (by rw [hph]; decide)]
  rw [Routing.scatter_set_hit _ _ _ _ q _ (fun u _ => congrArg _ (eq_pt u)) pt]
  · exact pos_message h mask ix jx pt
  · rw [hn]
    refine lands _ _ pt q ?_ ?_
    · rw [row_first p]; exact congrArg _ (show ((q 0).val * 32 + (q 1).val) / 32 = (q 0).val by omega)
    · rw [col_first p]; exact congrArg _ (show ((q 0).val * 32 + (q 1).val) % 32 = (q 1).val by omega)

/-- One trip. -/
theorem step (h : Inv X k) : Inv (afterL bodyI X) (k + 1) where
  num := num_step h
  small := small_step h
  nonneg := fun q => keeps_step (fun x => 0 ≤ x) (fun _ h => h.le) h q (h.nonneg q)
  pos := fun q hq => by
    rcases Nat.lt_succ_iff_lt_or_eq.1 hq with hlt | heq
    · exact keeps_step (fun x => 0 < x) (fun _ h => h) h q (h.pos q hlt)
    · subst heq; exact hit_step q h

/-- Testing the loop's condition changes none of the three. -/
theorem cond_keeps (h : Inv X k) : Inv (after condOps X) k := by
  have e {r : Ref sig .tc} (hr : r ∉ condOps_W) : after condOps X (Proc.devRef .tc r) = X (Proc.devRef .tc r) :=
    after_of_writes_sub condOps X condOps_writes hr
  have e3 : numOf (after condOps X) = numOf X := e (by decide +kernel)
  have e4 : v2c (after condOps X) = v2c X := e (by decide +kernel)
  have e5 : c2v (after condOps X) = c2v X := e (by decide +kernel)
  exact ⟨e3.trans h.num, by rw [e4]; exact h.small, by rw [e5]; exact h.nonneg, by rw [e5]; exact h.pos⟩

/-! ## Before the loop -/

theorem start3 (X : Valuation τ sig (Elt Ideal)) : after hostOps0 X (Proc.devRef .tc main_v4_3) = kW 0#32 := by
  after_reads_simp; rfl

theorem start4 (X : Valuation τ sig (Elt Ideal)) : after hostOps0 X (Proc.devRef .tc main_v4_4) =
    (broadcastInDim S32x16 ![] bcast_S_S32x16 (constant S_ .f32 0x3F800000#32) : FVec Ideal S32x16 .f32) := by
  after_reads_simp; rfl

theorem start5 (X : Valuation τ sig (Elt Ideal)) : after hostOps0 X (Proc.devRef .tc main_v4_5) =
    (broadcastInDim S16x32 ![] bcast_S_S16x32 (constant S_ .f32 0x00000000#32) : FVec Ideal S16x32 .f32) := by
  after_reads_simp; rfl

theorem start (X : Valuation τ sig (Elt Ideal)) : Inv (after hostOps0 X) 0 where
  num := start3 X
  small := fun i => by
    rw [show v2c (after hostOps0 X) = _ from start4 X]
    show Small (Ideal.ofBits .f32 0x3F800000#32)
    rw [Ideal.ofBits_one_f32]; exact small_one
  nonneg := fun q => by
    rw [show c2v (after hostOps0 X) = _ from start5 X]
    show (0 : EReal) ≤ Ideal.ofBits .f32 0x00000000#32
    rw [Ideal.ofBits_zero_f32]
  pos := fun q hq => absurd hq (Nat.not_lt_zero _)

variable (m : (ℓ : Loc nD τ sig) → Buf (Elt Ideal) ℓ) (c : Dev nD)

/-- After `k` trips. -/
theorem trips (k : Nat) : Inv (atTrip condOps bodyI (entryContents preI m) k c) k := by
  induction k with
  | zero => exact start (launchContents m c)
  | succ k ih => exact step (cond_keeps ih)

/-- After the loop every check's message is positive. -/
theorem all_pos (q : S16x32.Idx) : (0 : EReal) < c2v (after condOps (atTrip condOps bodyI (entryContents preI m) 51200 c)) q := by
  refine (cond_keeps (trips m c 51200)).pos q ?_
  have h0 : (q 0).val < 16 := (q 0).isLt
  have h1 : (q 1).val < 32 := (q 1).isLt
  omega

/-! ## The argument -/

theorem arg_body (X : Valuation τ sig (Elt Ideal)) : afterL bodyI X (Proc.devRef .tc main_arg0) = X (Proc.devRef .tc main_arg0) := by
  rw [afterL_body, after_of_writes_sub while0Ops0_22 _ while0Ops0_22_writes (by decide +kernel)]
  unfold checkPart varPart words
  rw [keep21 _ (r := main_arg0) (by decide +kernel), keep20 _ (r := main_arg0) (by decide +kernel), keep19 _ (r := main_arg0) (by decide +kernel), keep18 _ (r := main_arg0) (by decide +kernel),
    keep17 _ (r := main_arg0) (by decide +kernel), keep16 _ (r := main_arg0) (by decide +kernel), keep15 _ (r := main_arg0) (by decide +kernel),
    keep14 _ (r := main_arg0) (by decide +kernel), keep13 _ (r := main_arg0) (by decide +kernel), keep12 _ (r := main_arg0) (by decide +kernel),
    keep11 _ (r := main_arg0) (by decide +kernel), keep10 _ (r := main_arg0) (by decide +kernel), keep9 _ (r := main_arg0) (by decide +kernel),
    keep8 _ (r := main_arg0) (by decide +kernel), keep7 _ (r := main_arg0) (by decide +kernel), keep6 _ (r := main_arg0) (by decide +kernel),
    keep5 _ (r := main_arg0) (by decide +kernel), keep4 _ (r := main_arg0) (by decide +kernel), keep3 _ (r := main_arg0) (by decide +kernel),
    keep2 _ (r := main_arg0) (by decide +kernel), keep1 _ (r := main_arg0) (by decide +kernel), keep0 _ (r := main_arg0) (by decide +kernel)]

theorem arg_cond (X : Valuation τ sig (Elt Ideal)) : after condOps X (Proc.devRef .tc main_arg0) = X (Proc.devRef .tc main_arg0) :=
  after_of_writes_sub condOps X condOps_writes (by decide +kernel)

theorem arg_start (X : Valuation τ sig (Elt Ideal)) : after hostOps0 X (Proc.devRef .tc main_arg0) = X (Proc.devRef .tc main_arg0) :=
  after_of_writes_sub hostOps0 X hostOps0_writes (by decide +kernel)

theorem arg_trips (k : Nat) : atTrip condOps bodyI (entryContents preI m) k c (Proc.devRef .tc main_arg0) = launchContents m c (Proc.devRef .tc main_arg0) := by
  induction k with
  | zero => exact arg_start (launchContents m c)
  | succ k ih => exact (arg_body _).trans ((arg_cond _).trans ih)

end Cert.Proof.Loop

end
-- ==== Proof.Value.lean ====
/-
  What the decoder returns (hand-written, untrusted): the bits of the signs it was given, its argument unchanged — and with the
  kernel's run, the claim that the two return the same.
-/
module

public import proofs.«01_k».proof.Defs
public import proofs.«01_k».proof.Proof.Decide
public import proofs.«01_k».proof.Proof.Loop
public import Idealize.ShloMosaic.Lib.Quiescent

@[expose] public section

set_option maxRecDepth 100000

noncomputable section

namespace Cert.Proof.Value

open Cert.ReferenceIdeal Cert.ReferenceIdeal.Gen Cert.ReferenceIdeal.Value
open Idealize.ShloMosaic Idealize.ShloMosaic.TcCoe Idealize.ShloMosaic.StableHlo Idealize.ShloMosaic.Tactic
open Idealize.SL Idealize.SL.Sem
open Cert.Proof.Trip Cert.Proof.Words Cert.Proof.Range Cert.Proof.Loop

/-! ## After the loop -/

/-- The product of the 16 rows by halves. -/
def prodRows (x : FVec Ideal S16x32 .f32) : FVec Ideal S1x32 .f32 :=
  let x8 : FVec Ideal S8x32 .f32 := mulf (extractStridedSlice S8x32 ![0, 0] x slices_S16x32_S8x32_0_0) (extractStridedSlice S8x32 ![8, 0] x slices_S16x32_S8x32_8_0)
  let x4 : FVec Ideal S4x32 .f32 := mulf (extractStridedSlice S4x32 ![0, 0] x8 slices_S8x32_S4x32_0_0) (extractStridedSlice S4x32 ![4, 0] x8 slices_S8x32_S4x32_4_0)
  let x2 : FVec Ideal S2x32 .f32 := mulf (extractStridedSlice S2x32 ![0, 0] x4 slices_S4x32_S2x32_0_0) (extractStridedSlice S2x32 ![2, 0] x4 slices_S4x32_S2x32_2_0)
  mulf (extractStridedSlice S1x32 ![0, 0] x2 slices_S2x32_S1x32_0_0) (extractStridedSlice S1x32 ![1, 0] x2 slices_S2x32_S1x32_1_0)

theorem prodRows_pos (x : FVec Ideal S16x32 .f32) (h : ∀ q, (0 : EReal) < x q) (j : S1x32.Idx) : (0 : EReal) < prodRows x j :=
  have h8 : ∀ a b : S16x32.Idx, (0 : EReal) < (x a : EReal) * x b := fun a b => EReal.mul_pos (h a) (h b)
  EReal.mul_pos (EReal.mul_pos (EReal.mul_pos (h8 _ _) (h8 _ _)) (EReal.mul_pos (h8 _ _) (h8 _ _)))
    (EReal.mul_pos (EReal.mul_pos (h8 _ _) (h8 _ _)) (EReal.mul_pos (h8 _ _) (h8 _ _)))

variable (X : Valuation τ sig (Elt Ideal))

theorem post24 : after hostOps0_1 X (Proc.devRef .tc main_v24) =
    cmpf .ogt (mulf (Host.sign (X (Proc.devRef .tc main_arg0) : FVec Ideal S32 .f32))
        (shapeCast S32 (prodRows (Host.tanh (mulf (broadcastInDim S16x32 ![] bcast_S_S16x32 (constant S_ .f32 0x3F000000#32)) (c2v X)))) shapeCasts_S1x32_S32))
      (broadcastInDim S32 ![] bcast_S_S32 (constant S_ .f32 0x00000000#32)) := by
  after_reads_simp; rfl

theorem post6 : after hostOps0_1 X (Proc.devRef .tc main_c_6) = constantI S_ 32 0#32 := by
  after_reads_simp

theorem post7 : after hostOps0_1 X (Proc.devRef .tc main_c_7) = constantI S_ 32 1#32 := by
  after_reads_simp

theorem post25 : after hostOps0_2 X (Proc.devRef .tc main_v25) =
    select (X (Proc.devRef .tc main_v24)) (broadcastInDim S32 ![] bcast_S_S32 (X (Proc.devRef .tc main_c_6)))
      (broadcastInDim S32 ![] bcast_S_S32 (X (Proc.devRef .tc main_c_7))) := by
  after_reads_simp; rfl

/-- Where every check's message is positive the decoder returns the bits of its argument. -/
theorem post_bits (h : ∀ q, (0 : EReal) < c2v X q) :
    afterL postI X (Proc.devRef .tc main_v25) = Decide.bits (F := Ideal) (X (Proc.devRef .tc main_arg0) : FVec Ideal S32 .f32) := by
  show after hostOps0_2 (after hostOps0_1 X) (Proc.devRef .tc main_v25) = _
  rw [post25, post24, post6, post7]
  funext i
  have hp : (0 : EReal) < shapeCast S32 (prodRows (Host.tanh (mulf (broadcastInDim S16x32 ![] bcast_S_S16x32 (constant S_ .f32 0x3F000000#32)) (c2v X)))) shapeCasts_S1x32_S32 i :=
    prodRows_pos _ (fun q => tanh_pos (EReal.mul_pos half_pos (h q))) _
  generalize shapeCast S32 (prodRows (Host.tanh (mulf (broadcastInDim S16x32 ![] bcast_S_S16x32 (constant S_ .f32 0x3F000000#32)) (c2v X)))) shapeCasts_S1x32_S32 = p at hp ⊢
  generalize (X (Proc.devRef .tc main_arg0) : FVec Ideal S32 .f32) = x
  have e : Ideal.cmp .ogt (Ideal.sign (x i) * p i) (Ideal.ofBits .f32 0x00000000#32) = Ideal.cmp .ogt (x i) (Ideal.ofBits .f32 0x00000000#32) := by
    rw [Ideal.ofBits_zero_f32]
    exact congrArg BitVec.ofBool (decide_eq_decide.2 (sign_mul_pos_iff hp))
  exact congrArg (fun b : BitVec 1 => if b = 1 then (0#32 : BitVec 32) else 1#32) e

theorem post_arg : afterL postI X (Proc.devRef .tc main_arg0) = X (Proc.devRef .tc main_arg0) :=
  (after_of_writes_sub (r := main_arg0) (hostOps0_2 (F := Ideal)) _ hostOps0_2_writes (by decide +kernel)).trans
    (after_of_writes_sub (r := main_arg0) (hostOps0_1 (F := Ideal)) _ hostOps0_1_writes (by decide +kernel))

/-! ## The run -/

variable (m : (ℓ : Loc nD τ sig) → Buf (Elt Ideal) ℓ) (ρ : Dev nD → PrngReg)

theorem final_arg (c : Dev nD) : finalContents condOps preI bodyI postI 51200 m c (Proc.devRef .tc main_arg0) = m (c.tc.loc main_arg0) :=
  (post_arg _).trans ((arg_cond _).trans (arg_trips m c 51200))

theorem final_bits (c : Dev nD) :
    finalContents condOps preI bodyI postI 51200 m c (Proc.devRef .tc main_v25) = Decide.bits (F := Ideal) (m (c.tc.loc main_arg0) : FVec Ideal S32 .f32) :=
  (post_bits _ (all_pos m c)).trans (congrArg (Decide.bits (F := Ideal))
    ((arg_cond _).trans (arg_trips m c 51200)))

/-- The decoder runs to its end, returns the bits of its argument and leaves its argument and every semaphore as they were. -/
theorem run_reference : θ_run (defs (F := Ideal)) (onTc (τ := τ) (main (F := Ideal))) ⟨m, fun _ => 0, ρ⟩ (fun r =>
    (∀ c : Dev nD, r.2.mem ((c.tc : Thread nD τ).loc main_v25) = Decide.bits (F := Ideal) (m (c.tc.loc main_arg0) : FVec Ideal S32 .f32)
      ∧ r.2.mem ((c.tc : Thread nD τ).loc main_arg0) = m (c.tc.loc main_arg0)) ∧ r.2.sem = fun _ => 0) :=
  (θ_run _ _ _).mono (fun r h => ⟨fun c => ⟨(h c main_v25 (by decide)).trans (final_bits m c), (h c main_arg0 (by decide)).trans (final_arg m c)⟩,
    sem_eq_zero_of_no_sems (by decide) r.2⟩) (run_fold m ρ)

/-! ## The claims -/

theorem frame_referenceIdeal : Cert.quiescent_ReferenceIdeal := fun m ρ _ =>
  (θ_run _ _ _).mono (fun _ h => ⟨fun c => (h.1 c).2, h.2⟩) (run_reference m ρ)

theorem algebraic : Cert.algebraic_KernelIdeal_ReferenceIdeal := fun m ρ m' ρ' _ hin =>
  ⟨Decide.Y m, (θ_run _ _ _).mono (fun _ h => h.1) (Decide.run_main m ρ),
    (θ_run _ _ _).mono (fun _ h c => ⟨((h.1 c).1).trans (congrArg (Decide.bits (F := Ideal)) (hin c)), (h.1 c).2⟩) (run_reference m' ρ')⟩

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Decide
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts,
    Decide.frame_kernel, Decide.frame_kernelIdeal, Value.frame_referenceIdeal, trivial, Value.algebraic⟩

end Cert.Proof

end
